-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![1024, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩

class Facts : Prop where
  shapeCasts_S1024x1_S1024 : S1024x1.ShapeCasts S1024
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  natLt_1_32 : 1 < 32
  reducesTo_S1024x1024_S1024_d1 : S1024x1024.ReducesTo [1] S1024
  h_S_ : 0 < S_.numel
  bcast_S_S1024 : S_.BroadcastsInDim S1024 (![] : Fin 0 → Fin S1024.rank)

variable [Facts]

def fn_part2 {F : FTy → Type} [FloatOps F] (main_v22 : IVec S1024 1) (main_v24 : IVec S1024 32) (main_v26 : IVec S1024 32) (main_v41 : IVec S1024x1024 1) : IVec S1024 1 :=
  let main_v42 : IVec S1024x1024 32 := (extui 32 · natLt_1_32) main_v41
  let main_c_5 : IVec S_ 32 := constantI S_ 32 0#32
  let main_v43 : IVec S1024 32 := (fun x v => Host.reduce IntOp.addi x v reducesTo_S1024x1024_S1024_d1 h_S_) main_v42 main_c_5
  let main_v44 : IVec S1024 1 := noti main_v22
  let main_v45 : IVec S1024 1 := cmpi .eq main_v24 main_v26
  let main_v46 : IVec S1024 1 := ori main_v44 main_v45
  let main_c_6 : IVec S_ 32 := constantI S_ 32 48#32
  let main_v47 : IVec S1024 32 := broadcastInDim S1024 ![] bcast_S_S1024 main_c_6
  let main_v48 : IVec S1024 1 := cmpi .slt main_v43 main_v47
  let main_v49 : IVec S1024 1 := ori main_v46 main_v48
  main_v49

def fn_part1 {F : FTy → Type} [FloatOps F] (main_v0 : IVec S1024 32) (main_v1 : IVec S1024 32) (main_v11 : IVec S1024x1024 1) (main_v19 : IVec S1024 1) (main_c_2 : IVec S_ 32) : IVec S1024 1 :=
  let main_v20 : IVec S1024 32 := broadcastInDim S1024 ![] bcast_S_S1024 main_c_2
  let main_v21 : IVec S1024 1 := cmpi .slt main_v1 main_v20
  let main_v22 : IVec S1024 1 := andi main_v19 main_v21
  let main_c_3 : IVec S_ 32 := constantI S_ 32 7#32
  let main_v23 : IVec S1024 32 := broadcastInDim S1024 ![] bcast_S_S1024 main_c_3
  let main_v24 : IVec S1024 32 := Host.shrsi main_v0 main_v23
  let main_c_4 : IVec S_ 32 := constantI S_ 32 2#32
  let main_v25 : IVec S1024 32 := broadcastInDim S1024 ![] bcast_S_S1024 main_c_4
  let main_v26 : IVec S1024 32 := Host.shrsi main_v1 main_v25
  let main_v27 : IVec S1024x1 32 := broadcastInDim S1024x1 ![0] bcast_S1024_S1024x1_0 main_v24
  let main_v28 : IVec S1x1024 32 := broadcastInDim S1x1024 ![1] bcast_S1024_S1x1024_1 main_v24
  let main_v29 : IVec S1024x1024 32 := broadcastInDim S1024x1024 ![0, 1] bcast_S1024x1_S1024x1024_0_1 main_v27
  let main_v30 : IVec S1024x1024 32 := broadcastInDim S1024x1024 ![0, 1] bcast_S1x1024_S1024x1024_0_1 main_v28
  let main_v31 : IVec S1024x1024 1 := cmpi .eq main_v29 main_v30
  let main_v32 : IVec S1024x1 32 := broadcastInDim S1024x1 ![0] bcast_S1024_S1024x1_0 main_v26
  let main_v33 : IVec S1x1024 32 := broadcastInDim S1x1024 ![1] bcast_S1024_S1x1024_1 main_v26
  let main_v34 : IVec S1024x1024 32 := broadcastInDim S1024x1024 ![0, 1] bcast_S1024x1_S1024x1024_0_1 main_v32
  let main_v35 : IVec S1024x1024 32 := broadcastInDim S1024x1024 ![0, 1] bcast_S1x1024_S1024x1024_0_1 main_v33
  let main_v36 : IVec S1024x1024 1 := cmpi .eq main_v34 main_v35
  let main_v37 : IVec S1024x1024 1 := andi main_v31 main_v36
  let main_v38 : IVec S1024x1024 1 := andi main_v37 main_v11
  let main_v39 : IVec S1x1024 1 := broadcastInDim S1x1024 ![1] bcast_S1024_S1x1024_1 main_v22
  let main_v40 : IVec S1024x1024 1 := broadcastInDim S1024x1024 ![0, 1] bcast_S1x1024_S1024x1024_0_1 main_v39
  let main_v41 : IVec S1024x1024 1 := andi main_v38 main_v40
  fn_part2 (F := F) main_v22 main_v24 main_v26 main_v41

def fn {F : FTy → Type} [FloatOps F] (main_arg0 : FVec F S1024x256 .bf16) (main_arg1 : FVec F S256x32 .bf16) (main_arg2 : IVec S1024x1 32) (main_arg3 : FVec F S4x256x512 .bf16) : IVec S1024 1 :=
  let main_v0 : IVec S1024 32 := iotaInDim S1024 32 0
  let main_v1 : IVec S1024 32 := shapeCast S1024 main_arg2 shapeCasts_S1024x1_S1024
  let main_v2 : IVec S1024x1 32 := broadcastInDim S1024x1 ![0] bcast_S1024_S1024x1_0 main_v1
  let main_v3 : IVec S1x1024 32 := broadcastInDim S1x1024 ![1] bcast_S1024_S1x1024_1 main_v1
  let main_v4 : IVec S1024x1024 32 := broadcastInDim S1024x1024 ![0, 1] bcast_S1024x1_S1024x1024_0_1 main_v2
  let main_v5 : IVec S1024x1024 32 := broadcastInDim S1024x1024 ![0, 1] bcast_S1x1024_S1024x1024_0_1 main_v3
  let main_v6 : IVec S1024x1024 1 := cmpi .eq main_v4 main_v5
  let main_v7 : IVec S1x1024 32 := broadcastInDim S1x1024 ![1] bcast_S1024_S1x1024_1 main_v0
  let main_v8 : IVec S1024x1 32 := broadcastInDim S1024x1 ![0] bcast_S1024_S1024x1_0 main_v0
  let main_v9 : IVec S1024x1024 32 := broadcastInDim S1024x1024 ![0, 1] bcast_S1x1024_S1024x1024_0_1 main_v7
  let main_v10 : IVec S1024x1024 32 := broadcastInDim S1024x1024 ![0, 1] bcast_S1024x1_S1024x1024_0_1 main_v8
  let main_v11 : IVec S1024x1024 1 := cmpi .slt main_v9 main_v10
  let main_v12 : IVec S1024x1024 1 := andi main_v6 main_v11
  let main_v13 : IVec S1024x1024 32 := (extui 32 · natLt_1_32) main_v12
  let main_c : IVec S_ 32 := constantI S_ 32 0#32
  let main_v14 : IVec S1024 32 := (fun x v => Host.reduce IntOp.addi x v reducesTo_S1024x1024_S1024_d1 h_S_) main_v13 main_c
  let main_c_0 : IVec S_ 32 := constantI S_ 32 25#32
  let main_v15 : IVec S1024 32 := broadcastInDim S1024 ![] bcast_S_S1024 main_c_0
  let main_v16 : IVec S1024 1 := cmpi .slt main_v14 main_v15
  let main_c_1 : IVec S_ 32 := constantI S_ 32 0#32
  let main_v17 : IVec S1024 32 := broadcastInDim S1024 ![] bcast_S_S1024 main_c_1
  let main_v18 : IVec S1024 1 := cmpi .sge main_v1 main_v17
  let main_v19 : IVec S1024 1 := andi main_v16 main_v18
  let main_c_2 : IVec S_ 32 := constantI S_ 32 32#32
  fn_part1 (F := F) main_v0 main_v1 main_v11 main_v19 main_c_2
-- ==== Pre_fits_ReferenceIdeal.lean ====
abbrev S1024x256 : Shape := ⟨2, ![1024, 256]⟩
abbrev S256x32 : Shape := ⟨2, ![256, 32]⟩
abbrev S1024x1 : Shape := ⟨2, ![1024, 1]⟩
abbrev S32x256x512 : Shape := ⟨3, ![32, 256, 512]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩

class Facts : Prop where
  shapeCasts_S1024x1_S1024 : S1024x1.ShapeCasts S1024
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  natLt_1_32 : 1 < 32
  reducesTo_S1024x1024_S1024_d1 : S1024x1024.ReducesTo [1] S1024
  h_S_ : 0 < S_.numel
  bcast_S_S1024 : S_.BroadcastsInDim S1024 (![] : Fin 0 → Fin S1024.rank)

variable [Facts]

def fn_part2 {F : FTy → Type} [FloatOps F] (main_v22 : IVec S1024 1) (main_v24 : IVec S1024 32) (main_v26 : IVec S1024 32) (main_v41 : IVec S1024x1024 1) : IVec S1024 1 :=
  let main_v42 : IVec S1024x1024 32 := (extui 32 · natLt_1_32) main_v41
  let main_c_5 : IVec S_ 32 := constantI S_ 32 0#32
  let main_v43 : IVec S1024 32 := (fun x v => Host.reduce IntOp.addi x v reducesTo_S1024x1024_S1024_d1 h_S_) main_v42 main_c_5
  let main_v44 : IVec S1024 1 := noti main_v22
  let main_v45 : IVec S1024 1 := cmpi .eq main_v24 main_v26
  let main_v46 : IVec S1024 1 := ori main_v44 main_v45
  let main_c_6 : IVec S_ 32 := constantI S_ 32 48#32
  let main_v47 : IVec S1024 32 := broadcastInDim S1024 ![] bcast_S_S1024 main_c_6
  let main_v48 : IVec S1024 1 := cmpi .slt main_v43 main_v47
  let main_v49 : IVec S1024 1 := ori main_v46 main_v48
  main_v49

def fn_part1 {F : FTy → Type} [FloatOps F] (main_v0 : IVec S1024 32) (main_v1 : IVec S1024 32) (main_v11 : IVec S1024x1024 1) (main_v19 : IVec S1024 1) (main_c_2 : IVec S_ 32) : IVec S1024 1 :=
  let main_v20 : IVec S1024 32 := broadcastInDim S1024 ![] bcast_S_S1024 main_c_2
  let main_v21 : IVec S1024 1 := cmpi .slt main_v1 main_v20
  let main_v22 : IVec S1024 1 := andi main_v19 main_v21
  let main_c_3 : IVec S_ 32 := constantI S_ 32 7#32
  let main_v23 : IVec S1024 32 := broadcastInDim S1024 ![] bcast_S_S1024 main_c_3
  let main_v24 : IVec S1024 32 := Host.shrsi main_v0 main_v23
  let main_c_4 : IVec S_ 32 := constantI S_ 32 2#32
  let main_v25 : IVec S1024 32 := broadcastInDim S1024 ![] bcast_S_S1024 main_c_4
  let main_v26 : IVec S1024 32 := Host.shrsi main_v1 main_v25
  let main_v27 : IVec S1024x1 32 := broadcastInDim S1024x1 ![0] bcast_S1024_S1024x1_0 main_v24
  let main_v28 : IVec S1x1024 32 := broadcastInDim S1x1024 ![1] bcast_S1024_S1x1024_1 main_v24
  let main_v29 : IVec S1024x1024 32 := broadcastInDim S1024x1024 ![0, 1] bcast_S1024x1_S1024x1024_0_1 main_v27
  let main_v30 : IVec S1024x1024 32 := broadcastInDim S1024x1024 ![0, 1] bcast_S1x1024_S1024x1024_0_1 main_v28
  let main_v31 : IVec S1024x1024 1 := cmpi .eq main_v29 main_v30
  let main_v32 : IVec S1024x1 32 := broadcastInDim S1024x1 ![0] bcast_S1024_S1024x1_0 main_v26
  let main_v33 : IVec S1x1024 32 := broadcastInDim S1x1024 ![1] bcast_S1024_S1x1024_1 main_v26
  let main_v34 : IVec S1024x1024 32 := broadcastInDim S1024x1024 ![0, 1] bcast_S1024x1_S1024x1024_0_1 main_v32
  let main_v35 : IVec S1024x1024 32 := broadcastInDim S1024x1024 ![0, 1] bcast_S1x1024_S1024x1024_0_1 main_v33
  let main_v36 : IVec S1024x1024 1 := cmpi .eq main_v34 main_v35
  let main_v37 : IVec S1024x1024 1 := andi main_v31 main_v36
  let main_v38 : IVec S1024x1024 1 := andi main_v37 main_v11
  let main_v39 : IVec S1x1024 1 := broadcastInDim S1x1024 ![1] bcast_S1024_S1x1024_1 main_v22
  let main_v40 : IVec S1024x1024 1 := broadcastInDim S1024x1024 ![0, 1] bcast_S1x1024_S1024x1024_0_1 main_v39
  let main_v41 : IVec S1024x1024 1 := andi main_v38 main_v40
  fn_part2 (F := F) main_v22 main_v24 main_v26 main_v41

def fn {F : FTy → Type} [FloatOps F] (main_arg0 : FVec F S1024x256 .bf16) (main_arg1 : FVec F S256x32 .bf16) (main_arg2 : IVec S1024x1 32) (main_arg3 : FVec F S32x256x512 .bf16) : IVec S1024 1 :=
  let main_v0 : IVec S1024 32 := iotaInDim S1024 32 0
  let main_v1 : IVec S1024 32 := shapeCast S1024 main_arg2 shapeCasts_S1024x1_S1024
  let main_v2 : IVec S1024x1 32 := broadcastInDim S1024x1 ![0] bcast_S1024_S1024x1_0 main_v1
  let main_v3 : IVec S1x1024 32 := broadcastInDim S1x1024 ![1] bcast_S1024_S1x1024_1 main_v1
  let main_v4 : IVec S1024x1024 32 := broadcastInDim S1024x1024 ![0, 1] bcast_S1024x1_S1024x1024_0_1 main_v2
  let main_v5 : IVec S1024x1024 32 := broadcastInDim S1024x1024 ![0, 1] bcast_S1x1024_S1024x1024_0_1 main_v3
  let main_v6 : IVec S1024x1024 1 := cmpi .eq main_v4 main_v5
  let main_v7 : IVec S1x1024 32 := broadcastInDim S1x1024 ![1] bcast_S1024_S1x1024_1 main_v0
  let main_v8 : IVec S1024x1 32 := broadcastInDim S1024x1 ![0] bcast_S1024_S1024x1_0 main_v0
  let main_v9 : IVec S1024x1024 32 := broadcastInDim S1024x1024 ![0, 1] bcast_S1x1024_S1024x1024_0_1 main_v7
  let main_v10 : IVec S1024x1024 32 := broadcastInDim S1024x1024 ![0, 1] bcast_S1024x1_S1024x1024_0_1 main_v8
  let main_v11 : IVec S1024x1024 1 := cmpi .slt main_v9 main_v10
  let main_v12 : IVec S1024x1024 1 := andi main_v6 main_v11
  let main_v13 : IVec S1024x1024 32 := (extui 32 · natLt_1_32) main_v12
  let main_c : IVec S_ 32 := constantI S_ 32 0#32
  let main_v14 : IVec S1024 32 := (fun x v => Host.reduce IntOp.addi x v reducesTo_S1024x1024_S1024_d1 h_S_) main_v13 main_c
  let main_c_0 : IVec S_ 32 := constantI S_ 32 25#32
  let main_v15 : IVec S1024 32 := broadcastInDim S1024 ![] bcast_S_S1024 main_c_0
  let main_v16 : IVec S1024 1 := cmpi .slt main_v14 main_v15
  let main_c_1 : IVec S_ 32 := constantI S_ 32 0#32
  let main_v17 : IVec S1024 32 := broadcastInDim S1024 ![] bcast_S_S1024 main_c_1
  let main_v18 : IVec S1024 1 := cmpi .sge main_v1 main_v17
  let main_v19 : IVec S1024 1 := andi main_v16 main_v18
  let main_c_2 : IVec S_ 32 := constantI S_ 32 32#32
  fn_part1 (F := F) main_v0 main_v1 main_v11 main_v19 main_c_2
-- ==== Kernel.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S128x512 : Shape := ⟨2, ![128, 512]⟩
abbrev S1024x8 : Shape := ⟨2, ![1024, 8]⟩
abbrev S8x48x512 : Shape := ⟨3, ![8, 48, 512]⟩
abbrev S8 : Shape := ⟨1, ![8]⟩
abbrev S_ : Shape := ⟨0, ![]⟩
abbrev S1024x32 : Shape := ⟨2, ![1024, 32]⟩
abbrev S128x128 : Shape := ⟨2, ![128, 128]⟩
abbrev S128x32 : Shape := ⟨2, ![128, 32]⟩
abbrev S32 : Shape := ⟨1, ![32]⟩
abbrev S1x32 : Shape := ⟨2, ![1, 32]⟩
abbrev S8x32 : Shape := ⟨2, ![8, 32]⟩
abbrev S8x8 : Shape := ⟨2, ![8, 8]⟩
abbrev S128 : Shape := ⟨1, ![128]⟩
abbrev S128x1 : Shape := ⟨2, ![128, 1]⟩
abbrev S128x8 : Shape := ⟨2, ![128, 8]⟩
abbrev S1024 : Shape := ⟨1, ![1024]⟩
abbrev S1024x128 : Shape := ⟨2, ![1024, 128]⟩
abbrev S128x256 : Shape := ⟨2, ![128, 256]⟩
abbrev S128x1024 : Shape := ⟨2, ![128, 1024]⟩
abbrev S1024x512 : Shape := ⟨2, ![1024, 512]⟩
abbrev S128x48 : Shape := ⟨2, ![128, 48]⟩
abbrev S1024x48 : Shape := ⟨2, ![1024, 48]⟩
abbrev S48x128 : Shape := ⟨2, ![48, 128]⟩
abbrev S384x128 : Shape := ⟨2, ![384, 128]⟩
abbrev S384x512 : Shape := ⟨2, ![384, 512]⟩
abbrev S1 : Shape := ⟨1, ![1]⟩
abbrev S1x48x512 : Shape := ⟨3, ![1, 48, 512]⟩
abbrev S48x512 : Shape := ⟨2, ![48, 512]⟩

abbrev nBuf : Space → Nat
  | .hbm => 5
  | .vmem => 8
  | .smem => 0
  | _ => 0

abbrev bufTy : (tb : Table) → Fin (tcTables nBuf tb) → BufTy
  | .hbm, ⟨0, _⟩ => ⟨S1024x256, .bf16⟩
  | .hbm, ⟨1, _⟩ => ⟨S256x32, .bf16⟩
  | .hbm, ⟨2, _⟩ => ⟨S1024x1, .i32⟩
  | .hbm, ⟨3, _⟩ => ⟨S4x256x512, .bf16⟩
  | .hbm, ⟨4, _⟩ => ⟨S128x512, .f32⟩
  | .local _ .vmem, ⟨0, _⟩ => ⟨S1024x256, .bf16⟩
  | .local _ .vmem, ⟨1, _⟩ => ⟨S1024x1, .i32⟩
  | .local _ .vmem, ⟨2, _⟩ => ⟨S4x256x512, .bf16⟩
  | .local _ .vmem, ⟨3, _⟩ => ⟨S128x512, .f32⟩
  | .local _ .vmem, ⟨4, _⟩ => ⟨S1024x8, .f32⟩
  | .local _ .vmem, ⟨5, _⟩ => ⟨S1024x1, .f32⟩
  | .local _ .vmem, ⟨6, _⟩ => ⟨S8x48x512, .bf16⟩
  | .local _ .vmem, ⟨7, _⟩ => ⟨S8x48x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_401 : BitVec 32 := 0#32
  let c0_i32_399 : BitVec 32 := 0#32
  let c1_i32_400 : BitVec 32 := 1#32
  let v903 : BitVec 32 := Scalar.muli c0_i32_399 c1_i32_400
  let v904 : BitVec 32 := Scalar.addi c0_i32_401 v903
  v904.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_401 : BitVec 32 := 0#32
  let c1_i32_399 : BitVec 32 := 1#32
  let c1_i32_400 : BitVec 32 := 1#32
  let v903 : BitVec 32 := Scalar.muli c1_i32_399 c1_i32_400
  let v904 : BitVec 32 := Scalar.addi c0_i32_401 v903
  v904.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_401 : BitVec 32 := 0#32
  let c2_i32_399 : BitVec 32 := 2#32
  let c1_i32_400 : BitVec 32 := 1#32
  let v903 : BitVec 32 := Scalar.muli c2_i32_399 c1_i32_400
  let v904 : BitVec 32 := Scalar.addi c0_i32_401 v903
  v904.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_401 : BitVec 32 := 0#32
  let c3_i32_399 : BitVec 32 := 3#32
  let c1_i32_400 : BitVec 32 := 1#32
  let v903 : BitVec 32 := Scalar.muli c3_i32_399 c1_i32_400
  let v904 : BitVec 32 := Scalar.addi c0_i32_401 v903
  v904.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_401 : BitVec 32 := 0#32
  let c4_i32_399 : BitVec 32 := 4#32
  let c1_i32_400 : BitVec 32 := 1#32
  let v903 : BitVec 32 := Scalar.muli c4_i32_399 c1_i32_400
  let v904 : BitVec 32 := Scalar.addi c0_i32_401 v903
  v904.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_401 : BitVec 32 := 0#32
  let c5_i32_399 : BitVec 32 := 5#32
  let c1_i32_400 : BitVec 32 := 1#32
  let v903 : BitVec 32 := Scalar.muli c5_i32_399 c1_i32_400
  let v904 : BitVec 32 := Scalar.addi c0_i32_401 v903
  v904.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_401 : BitVec 32 := 0#32
  let c6_i32_399 : BitVec 32 := 6#32
  let c1_i32_400 : BitVec 32 := 1#32
  let v903 : BitVec 32 := Scalar.muli c6_i32_399 c1_i32_400
  let v904 : BitVec 32 := Scalar.addi c0_i32_401 v903
  v904.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_401 : BitVec 32 := 0#32
  let c7_i32_399 : BitVec 32 := 7#32
  let c1_i32_400 : BitVec 32 := 1#32
  let v903 : BitVec 32 := Scalar.muli c7_i32_399 c1_i32_400
  let v904 : BitVec 32 := Scalar.addi c0_i32_401 v903
  v904.toNat
def k0_off1 (d0 : Dev nD) (c1_i32_91 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v365 : BitVec 32 := Scalar.addi v2 c1_i32_91
  let c8_i32_92 : BitVec 32 := 8#32
  let c0_i32_93 : BitVec 32 := 0#32
  let v366 : BitVec 1 := Scalar.cmpi .eq c8_i32_92 c0_i32_93
  let c1_i32_94 : BitVec 32 := 1#32
  let v367 : BitVec 32 := Scalar.select v366 c1_i32_94 c8_i32_92
  let v368 : BitVec 32 := Scalar.remsi v365 v367
  let c0_i32_96 : BitVec 32 := 0#32
  let v370 : BitVec 1 := Scalar.cmpi .slt v368 c0_i32_96
  let c0_i32_97 : BitVec 32 := 0#32
  let v371 : BitVec 1 := Scalar.cmpi .slt v367 c0_i32_97
  let v372 : BitVec 1 := Scalar.xori v370 v371
  let c0_i32_95 : BitVec 32 := 0#32
  let v369 : BitVec 1 := Scalar.cmpi .ne v368 c0_i32_95
  let v373 : BitVec 1 := Scalar.andi v372 v369
  let v374 : BitVec 32 := Scalar.addi v368 v367
  let v375 : BitVec 32 := Scalar.select v373 v374 v368
  ![v375.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_100 : BitVec 32 := 0#32
  let c0_i32_101 : BitVec 32 := 0#32
  ![v2.toNat, 0, 0]
def k0_off4 (d0 : Dev nD) (c1_i32_91 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v365 : BitVec 32 := Scalar.addi v2 c1_i32_91
  let c8_i32_92 : BitVec 32 := 8#32
  let c0_i32_93 : BitVec 32 := 0#32
  let v366 : BitVec 1 := Scalar.cmpi .eq c8_i32_92 c0_i32_93
  let c1_i32_94 : BitVec 32 := 1#32
  let v367 : BitVec 32 := Scalar.select v366 c1_i32_94 c8_i32_92
  let v368 : BitVec 32 := Scalar.remsi v365 v367
  let c0_i32_96 : BitVec 32 := 0#32
  let v370 : BitVec 1 := Scalar.cmpi .slt v368 c0_i32_96
  let c0_i32_97 : BitVec 32 := 0#32
  let v371 : BitVec 1 := Scalar.cmpi .slt v367 c0_i32_97
  let v372 : BitVec 1 := Scalar.xori v370 v371
  let c0_i32_95 : BitVec 32 := 0#32
  let v369 : BitVec 1 := Scalar.cmpi .ne v368 c0_i32_95
  let v373 : BitVec 1 := Scalar.andi v372 v369
  let v374 : BitVec 32 := Scalar.addi v368 v367
  let v375 : BitVec 32 := Scalar.select v373 v374 v368
  let c0_i32_102 : BitVec 32 := 0#32
  let c0_i32_103 : BitVec 32 := 0#32
  ![v375.toNat, 0, 0]
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_91 : BitVec 32 := 1#32
  let v365 : BitVec 32 := Scalar.addi v2 c1_i32_91
  let c8_i32_92 : BitVec 32 := 8#32
  let c0_i32_93 : BitVec 32 := 0#32
  let v366 : BitVec 1 := Scalar.cmpi .eq c8_i32_92 c0_i32_93
  let c1_i32_94 : BitVec 32 := 1#32
  let v367 : BitVec 32 := Scalar.select v366 c1_i32_94 c8_i32_92
  let v368 : BitVec 32 := Scalar.remsi v365 v367
  let c0_i32_96 : BitVec 32 := 0#32
  let v370 : BitVec 1 := Scalar.cmpi .slt v368 c0_i32_96
  let c0_i32_97 : BitVec 32 := 0#32
  let v371 : BitVec 1 := Scalar.cmpi .slt v367 c0_i32_97
  let v372 : BitVec 1 := Scalar.xori v370 v371
  let c0_i32_95 : BitVec 32 := 0#32
  let v369 : BitVec 1 := Scalar.cmpi .ne v368 c0_i32_95
  let v373 : BitVec 1 := Scalar.andi v372 v369
  let v374 : BitVec 32 := Scalar.addi v368 v367
  let v375 : BitVec 32 := Scalar.select v373 v374 v368
  let c1_i32_98 : BitVec 32 := 1#32
  let v376 : BitVec 32 := Scalar.muli v375 c1_i32_98
  let v377 : BitVec 32 := Scalar.addi c0_i32_99 v376
  v377.toNat
def k0_dev10 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_104 : BitVec 32 := 2#32
  let v386 : BitVec 32 := Scalar.addi v2 c2_i32_104
  let c8_i32_105 : BitVec 32 := 8#32
  let c0_i32_106 : BitVec 32 := 0#32
  let v387 : BitVec 1 := Scalar.cmpi .eq c8_i32_105 c0_i32_106
  let c1_i32_107 : BitVec 32 := 1#32
  let v388 : BitVec 32 := Scalar.select v387 c1_i32_107 c8_i32_105
  let v389 : BitVec 32 := Scalar.remsi v386 v388
  let c0_i32_109 : BitVec 32 := 0#32
  let v391 : BitVec 1 := Scalar.cmpi .slt v389 c0_i32_109
  let c0_i32_110 : BitVec 32 := 0#32
  let v392 : BitVec 1 := Scalar.cmpi .slt v388 c0_i32_110
  let v393 : BitVec 1 := Scalar.xori v391 v392
  let c0_i32_108 : BitVec 32 := 0#32
  let v390 : BitVec 1 := Scalar.cmpi .ne v389 c0_i32_108
  let v394 : BitVec 1 := Scalar.andi v393 v390
  let v395 : BitVec 32 := Scalar.addi v389 v388
  let v396 : BitVec 32 := Scalar.select v394 v395 v389
  let c1_i32_111 : BitVec 32 := 1#32
  let v397 : BitVec 32 := Scalar.muli v396 c1_i32_111
  let v398 : BitVec 32 := Scalar.addi c0_i32_112 v397
  v398.toNat
def k0_dev11 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_117 : BitVec 32 := 3#32
  let v407 : BitVec 32 := Scalar.addi v2 c3_i32_117
  let c8_i32_118 : BitVec 32 := 8#32
  let c0_i32_119 : BitVec 32 := 0#32
  let v408 : BitVec 1 := Scalar.cmpi .eq c8_i32_118 c0_i32_119
  let c1_i32_120 : BitVec 32 := 1#32
  let v409 : BitVec 32 := Scalar.select v408 c1_i32_120 c8_i32_118
  let v410 : BitVec 32 := Scalar.remsi v407 v409
  let c0_i32_122 : BitVec 32 := 0#32
  let v412 : BitVec 1 := Scalar.cmpi .slt v410 c0_i32_122
  let c0_i32_123 : BitVec 32 := 0#32
  let v413 : BitVec 1 := Scalar.cmpi .slt v409 c0_i32_123
  let v414 : BitVec 1 := Scalar.xori v412 v413
  let c0_i32_121 : BitVec 32 := 0#32
  let v411 : BitVec 1 := Scalar.cmpi .ne v410 c0_i32_121
  let v415 : BitVec 1 := Scalar.andi v414 v411
  let v416 : BitVec 32 := Scalar.addi v410 v409
  let v417 : BitVec 32 := Scalar.select v415 v416 v410
  let c1_i32_124 : BitVec 32 := 1#32
  let v418 : BitVec 32 := Scalar.muli v417 c1_i32_124
  let v419 : BitVec 32 := Scalar.addi c0_i32_125 v418
  v419.toNat
def k0_dev12 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_130 : BitVec 32 := 4#32
  let v428 : BitVec 32 := Scalar.addi v2 c4_i32_130
  let c8_i32_131 : BitVec 32 := 8#32
  let c0_i32_132 : BitVec 32 := 0#32
  let v429 : BitVec 1 := Scalar.cmpi .eq c8_i32_131 c0_i32_132
  let c1_i32_133 : BitVec 32 := 1#32
  let v430 : BitVec 32 := Scalar.select v429 c1_i32_133 c8_i32_131
  let v431 : BitVec 32 := Scalar.remsi v428 v430
  let c0_i32_135 : BitVec 32 := 0#32
  let v433 : BitVec 1 := Scalar.cmpi .slt v431 c0_i32_135
  let c0_i32_136 : BitVec 32 := 0#32
  let v434 : BitVec 1 := Scalar.cmpi .slt v430 c0_i32_136
  let v435 : BitVec 1 := Scalar.xori v433 v434
  let c0_i32_134 : BitVec 32 := 0#32
  let v432 : BitVec 1 := Scalar.cmpi .ne v431 c0_i32_134
  let v436 : BitVec 1 := Scalar.andi v435 v432
  let v437 : BitVec 32 := Scalar.addi v431 v430
  let v438 : BitVec 32 := Scalar.select v436 v437 v431
  let c1_i32_137 : BitVec 32 := 1#32
  let v439 : BitVec 32 := Scalar.muli v438 c1_i32_137
  let v440 : BitVec 32 := Scalar.addi c0_i32_138 v439
  v440.toNat
def k0_dev13 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_143 : BitVec 32 := 5#32
  let v449 : BitVec 32 := Scalar.addi v2 c5_i32_143
  let c8_i32_144 : BitVec 32 := 8#32
  let c0_i32_145 : BitVec 32 := 0#32
  let v450 : BitVec 1 := Scalar.cmpi .eq c8_i32_144 c0_i32_145
  let c1_i32_146 : BitVec 32 := 1#32
  let v451 : BitVec 32 := Scalar.select v450 c1_i32_146 c8_i32_144
  let v452 : BitVec 32 := Scalar.remsi v449 v451
  let c0_i32_148 : BitVec 32 := 0#32
  let v454 : BitVec 1 := Scalar.cmpi .slt v452 c0_i32_148
  let c0_i32_149 : BitVec 32 := 0#32
  let v455 : BitVec 1 := Scalar.cmpi .slt v451 c0_i32_149
  let v456 : BitVec 1 := Scalar.xori v454 v455
  let c0_i32_147 : BitVec 32 := 0#32
  let v453 : BitVec 1 := Scalar.cmpi .ne v452 c0_i32_147
  let v457 : BitVec 1 := Scalar.andi v456 v453
  let v458 : BitVec 32 := Scalar.addi v452 v451
  let v459 : BitVec 32 := Scalar.select v457 v458 v452
  let c1_i32_150 : BitVec 32 := 1#32
  let v460 : BitVec 32 := Scalar.muli v459 c1_i32_150
  let v461 : BitVec 32 := Scalar.addi c0_i32_151 v460
  v461.toNat
def k0_dev14 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_156 : BitVec 32 := 6#32
  let v470 : BitVec 32 := Scalar.addi v2 c6_i32_156
  let c8_i32_157 : BitVec 32 := 8#32
  let c0_i32_158 : BitVec 32 := 0#32
  let v471 : BitVec 1 := Scalar.cmpi .eq c8_i32_157 c0_i32_158
  let c1_i32_159 : BitVec 32 := 1#32
  let v472 : BitVec 32 := Scalar.select v471 c1_i32_159 c8_i32_157
  let v473 : BitVec 32 := Scalar.remsi v470 v472
  let c0_i32_161 : BitVec 32 := 0#32
  let v475 : BitVec 1 := Scalar.cmpi .slt v473 c0_i32_161
  let c0_i32_162 : BitVec 32 := 0#32
  let v476 : BitVec 1 := Scalar.cmpi .slt v472 c0_i32_162
  let v477 : BitVec 1 := Scalar.xori v475 v476
  let c0_i32_160 : BitVec 32 := 0#32
  let v474 : BitVec 1 := Scalar.cmpi .ne v473 c0_i32_160
  let v478 : BitVec 1 := Scalar.andi v477 v474
  let v479 : BitVec 32 := Scalar.addi v473 v472
  let v480 : BitVec 32 := Scalar.select v478 v479 v473
  let c1_i32_163 : BitVec 32 := 1#32
  let v481 : BitVec 32 := Scalar.muli v480 c1_i32_163
  let v482 : BitVec 32 := Scalar.addi c0_i32_164 v481
  v482.toNat
def k0_dev15 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_169 : BitVec 32 := 7#32
  let v491 : BitVec 32 := Scalar.addi v2 c7_i32_169
  let c8_i32_170 : BitVec 32 := 8#32
  let c0_i32_171 : BitVec 32 := 0#32
  let v492 : BitVec 1 := Scalar.cmpi .eq c8_i32_170 c0_i32_171
  let c1_i32_172 : BitVec 32 := 1#32
  let v493 : BitVec 32 := Scalar.select v492 c1_i32_172 c8_i32_170
  let v494 : BitVec 32 := Scalar.remsi v491 v493
  let c0_i32_174 : BitVec 32 := 0#32
  let v496 : BitVec 1 := Scalar.cmpi .slt v494 c0_i32_174
  let c0_i32_175 : BitVec 32 := 0#32
  let v497 : BitVec 1 := Scalar.cmpi .slt v493 c0_i32_175
  let v498 : BitVec 1 := Scalar.xori v496 v497
  let c0_i32_173 : BitVec 32 := 0#32
  let v495 : BitVec 1 := Scalar.cmpi .ne v494 c0_i32_173
  let v499 : BitVec 1 := Scalar.andi v498 v495
  let v500 : BitVec 32 := Scalar.addi v494 v493
  let v501 : BitVec 32 := Scalar.select v499 v500 v494
  let c1_i32_176 : BitVec 32 := 1#32
  let v502 : BitVec 32 := Scalar.muli v501 c1_i32_176
  let v503 : BitVec 32 := Scalar.addi c0_i32_177 v502
  v503.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v512 : BitVec 32 := Scalar.muli v2 c128_i32
  let v513 : Index := Scalar.indexCast v512
  let c0_182 : Index := 0#32
  ![v513.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_184 : BitVec 32 := 128#32
  let v521 : BitVec 32 := Scalar.muli v2 c128_i32_184
  let v522 : Index := Scalar.indexCast v521
  let c0_185 : Index := 0#32
  ![v522.toNat, 0]
def k0_off7 (d0 : Dev nD) (c1_i32_186 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v524 : BitVec 32 := Scalar.subi v2 c1_i32_186
  let c8_i32_187 : BitVec 32 := 8#32
  let c0_i32_188 : BitVec 32 := 0#32
  let v525 : BitVec 1 := Scalar.cmpi .eq c8_i32_187 c0_i32_188
  let c1_i32_189 : BitVec 32 := 1#32
  let v526 : BitVec 32 := Scalar.select v525 c1_i32_189 c8_i32_187
  let v527 : BitVec 32 := Scalar.remsi v524 v526
  let c0_i32_191 : BitVec 32 := 0#32
  let v529 : BitVec 1 := Scalar.cmpi .slt v527 c0_i32_191
  let c0_i32_192 : BitVec 32 := 0#32
  let v530 : BitVec 1 := Scalar.cmpi .slt v526 c0_i32_192
  let v531 : BitVec 1 := Scalar.xori v529 v530
  let c0_i32_190 : BitVec 32 := 0#32
  let v528 : BitVec 1 := Scalar.cmpi .ne v527 c0_i32_190
  let v532 : BitVec 1 := Scalar.andi v531 v528
  let v533 : BitVec 32 := Scalar.addi v527 v526
  let v534 : BitVec 32 := Scalar.select v532 v533 v527
  ![v534.toNat]
def k0_off8 (d0 : Dev nD) (c1_i32_186 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v524 : BitVec 32 := Scalar.subi v2 c1_i32_186
  let c8_i32_187 : BitVec 32 := 8#32
  let c0_i32_188 : BitVec 32 := 0#32
  let v525 : BitVec 1 := Scalar.cmpi .eq c8_i32_187 c0_i32_188
  let c1_i32_189 : BitVec 32 := 1#32
  let v526 : BitVec 32 := Scalar.select v525 c1_i32_189 c8_i32_187
  let v527 : BitVec 32 := Scalar.remsi v524 v526
  let c0_i32_191 : BitVec 32 := 0#32
  let v529 : BitVec 1 := Scalar.cmpi .slt v527 c0_i32_191
  let c0_i32_192 : BitVec 32 := 0#32
  let v530 : BitVec 1 := Scalar.cmpi .slt v526 c0_i32_192
  let v531 : BitVec 1 := Scalar.xori v529 v530
  let c0_i32_190 : BitVec 32 := 0#32
  let v528 : BitVec 1 := Scalar.cmpi .ne v527 c0_i32_190
  let v532 : BitVec 1 := Scalar.andi v531 v528
  let v533 : BitVec 32 := Scalar.addi v527 v526
  let v534 : BitVec 32 := Scalar.select v532 v533 v527
  let c0_i32_196 : BitVec 32 := 0#32
  let c0_i32_197 : BitVec 32 := 0#32
  ![v534.toNat, 0, 0]
def k0_off9 (d0 : Dev nD) (c1_i32_186 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v524 : BitVec 32 := Scalar.subi v2 c1_i32_186
  let c8_i32_187 : BitVec 32 := 8#32
  let c0_i32_188 : BitVec 32 := 0#32
  let v525 : BitVec 1 := Scalar.cmpi .eq c8_i32_187 c0_i32_188
  let c1_i32_189 : BitVec 32 := 1#32
  let v526 : BitVec 32 := Scalar.select v525 c1_i32_189 c8_i32_187
  let v527 : BitVec 32 := Scalar.remsi v524 v526
  let c0_i32_191 : BitVec 32 := 0#32
  let v529 : BitVec 1 := Scalar.cmpi .slt v527 c0_i32_191
  let c0_i32_192 : BitVec 32 := 0#32
  let v530 : BitVec 1 := Scalar.cmpi .slt v526 c0_i32_192
  let v531 : BitVec 1 := Scalar.xori v529 v530
  let c0_i32_190 : BitVec 32 := 0#32
  let v528 : BitVec 1 := Scalar.cmpi .ne v527 c0_i32_190
  let v532 : BitVec 1 := Scalar.andi v531 v528
  let v533 : BitVec 32 := Scalar.addi v527 v526
  let v534 : BitVec 32 := Scalar.select v532 v533 v527
  let v556 : Index := Scalar.indexCast v534
  let c0_201 : Index := 0#32
  let c0_202 : Index := 0#32
  ![v556.toNat, 0, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x256 : Shape := ⟨2, ![1024, 256]⟩
abbrev S256x32 : Shape := ⟨2, ![256, 32]⟩
abbrev S1024x1 : Shape := ⟨2, ![1024, 1]⟩
abbrev S32x256x512 : Shape := ⟨3, ![32, 256, 512]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S32 : Shape := ⟨1, ![32]⟩
abbrev S1x32 : Shape := ⟨2, ![1, 32]⟩
abbrev S1024x32 : Shape := ⟨2, ![1024, 32]⟩
abbrev S1024x32x512 : Shape := ⟨3, ![1024, 32, 512]⟩
abbrev S1024x32x1 : Shape := ⟨3, ![1024, 32, 1]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x32, .bf16⟩
  | .hbm, ⟨2, _⟩ => ⟨S1024x1, .i32⟩
  | .hbm, ⟨3, _⟩ => ⟨S32x256x512, .bf16⟩
  | .hbm, ⟨4, _⟩ => ⟨S1024, .i32⟩
  | .hbm, ⟨5, _⟩ => ⟨S1x1024, .i32⟩
  | .hbm, ⟨6, _⟩ => ⟨S1024x1024, .i32⟩
  | .hbm, ⟨7, _⟩ => ⟨S1024x1024, .i32⟩
  | .hbm, ⟨8, _⟩ => ⟨S1024x1024, .i1⟩
  | .hbm, ⟨9, _⟩ => ⟨S1x1024, .i32⟩
  | .hbm, ⟨10, _⟩ => ⟨S1024x1, .i32⟩
  | .hbm, ⟨11, _⟩ => ⟨S1024x1024, .i32⟩
  | .hbm, ⟨12, _⟩ => ⟨S1024x1024, .i32⟩
  | .hbm, ⟨13, _⟩ => ⟨S1024x1024, .i1⟩
  | .hbm, ⟨14, _⟩ => ⟨S1024x1024, .i1⟩
  | .hbm, ⟨15, _⟩ => ⟨S1024x1024, .i32⟩
  | .hbm, ⟨16, _⟩ => ⟨S_, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S32, .i32⟩
  | .hbm, ⟨22, _⟩ => ⟨S1x32, .i32⟩
  | .hbm, ⟨23, _⟩ => ⟨S1024x32, .i32⟩
  | .hbm, ⟨24, _⟩ => ⟨S1024x32, .i32⟩
  | .hbm, ⟨25, _⟩ => ⟨S1024x32, .i1⟩
  | .hbm, ⟨26, _⟩ => ⟨S1024x256, .f32⟩
  | .hbm, ⟨27, _⟩ => ⟨S32x256x512, .f32⟩
  | .hbm, ⟨28, _⟩ => ⟨S1024x32x512, .f32⟩
  | .hbm, ⟨29, _⟩ => ⟨S1024x1, .i1⟩
  | .hbm, ⟨30, _⟩ => ⟨S1024x32, .i1⟩
  | .hbm, ⟨31, _⟩ => ⟨S1024x32, .i1⟩
  | .hbm, ⟨32, _⟩ => ⟨S1024x32x1, .i1⟩
  | .hbm, ⟨33, _⟩ => ⟨S_, .f32⟩
  | .hbm, ⟨34, _⟩ => ⟨S_, .f32⟩
  | .hbm, ⟨35, _⟩ => ⟨S1024x32x512, .i1⟩
  | .hbm, ⟨36, _⟩ => ⟨S1024x32x512, .f32⟩
  | .hbm, ⟨37, _⟩ => ⟨S1024x32x512, .f32⟩
  | .hbm, ⟨38, _⟩ => ⟨S_, .f32⟩
  | .hbm, ⟨39, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.Slots.lean ====
/-
The places that a frame has: slot `k` of a device's send buffer and of its receive buffer, and the two semaphores of
each slot. The eight slots of a buffer are the buffer; a transfer from slot `n` of a send buffer into slot `s` of a
receive buffer leaves the frame there.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit
public import Idealize.ShloMosaic.Lib.Tactic

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the launch's own copy, and this kernel's rounds with a device as a duty's name. -/
abbrev UB : Type := URounds (GSem nD τ sig) (Fin 8)
abbrev UU : Type := UR sig nD τ × UB

local notation "𝕄" => MT nD τ sig Unit (Elt F) ℕ UU ℕ

/-! ## The semaphores of the slots -/

set_option backward.proofsInPublic true in
/-- The semaphore that counts what left slot `k` of the send buffer. -/
def sendSem (k : Fin 8) : DmaSem sig := ⟨4 + k.val, by have := k.isLt; show 4 + k.val < 20; omega⟩
set_option backward.proofsInPublic true in
/-- The semaphore that counts what arrived in slot `k` of the receive buffer. -/
def recvSem (k : Fin 8) : DmaSem sig := ⟨12 + k.val, by have := k.isLt; show 12 + k.val < 20; omega⟩

theorem inb8 (k : Fin 8) : ∀ a, (![k.val] : Fin 1 → ℕ) a + S1.size a ≤ S8.size a := by revert k; decide

theorem send_sem_at (k : Fin 8) : ((cc0_scratch4.slice (Rect.unit (s := S8) ![k.val] S1.size (inb8 k))).squeeze S_ squeezes_S1_S_).sem = sendSem k := by
  revert k; decide +kernel
theorem recv_sem_at (k : Fin 8) : ((cc0_scratch5.slice (Rect.unit (s := S8) ![k.val] S1.size (inb8 k))).squeeze S_ squeezes_S1_S_).sem = recvSem k := by
  revert k; decide +kernel

theorem send_sem_of {off : Fin 1 → ℕ} (k : Fin 8) (h : off = ![k.val]) (hb : ∀ a, off a + S1.size a ≤ S8.size a) :
    ((cc0_scratch4.slice (Rect.unit (s := S8) off S1.size hb)).squeeze S_ squeezes_S1_S_).sem = sendSem k := by
  subst h; exact send_sem_at k
theorem recv_sem_of {off : Fin 1 → ℕ} (k : Fin 8) (h : off = ![k.val]) (hb : ∀ a, off a + S1.size a ≤ S8.size a) :
    ((cc0_scratch5.slice (Rect.unit (s := S8) off S1.size hb)).squeeze S_ squeezes_S1_S_).sem = recvSem k := by
  subst h; exact recv_sem_at k

/-! ## The slots -/

theorem inb3 (k : Fin 8) : ∀ a, (![k.val, 0, 0] : Fin 3 → ℕ) a + S1x48x512.size a ≤ S8x48x512.size a := by revert k; decide

/-- Slot `k` of the send buffer. -/
abbrev slotS (k : Fin 8) : Memref sig .tc .vmem S48x512 .bf16 :=
  ((Memref.whole cc0_scratch2 : Memref sig .tc .vmem S8x48x512 .bf16).slice (Rect.unit (s := S8x48x512) ![k.val, 0, 0] S1x48x512.size (inb3 k)) (fun _ => rfl)).squeeze
    S48x512 squeezes_S1x48x512_S48x512
/-- Slot `k` of the receive buffer. -/
abbrev slotR (k : Fin 8) : Memref sig .tc .vmem S48x512 .bf16 :=
  ((Memref.whole cc0_scratch3 : Memref sig .tc .vmem S8x48x512 .bf16).slice (Rect.unit (s := S8x48x512) ![k.val, 0, 0] S1x48x512.size (inb3 k)) (fun _ => rfl)).squeeze
    S48x512 squeezes_S1x48x512_S48x512

/-- The indices of slot `k`. -/
abbrev slotSet (k : Fin 8) : Finset S8x48x512.Idx := (Rect.unit (s := S8x48x512) ![k.val, 0, 0] S1x48x512.size (inb3 k)).set

theorem slotS_set (k : Fin 8) : (slotS k).view.set = slotSet k := by
  rw [Memref.set_view_squeeze]; exact View.set_slice_whole _ _
theorem slotR_set (k : Fin 8) : (slotR k).view.set = slotSet k := by
  rw [Memref.set_view_squeeze]; exact View.set_slice_whole _ _

theorem mem_slotSet {k : Fin 8} {i : S8x48x512.Idx} : i ∈ slotSet k ↔ (i 0).val = k.val := by
  rw [Rect.mem_set_unit]
  constructor
  · intro h; have := h 0; simp at this; omega
  · intro h a
    have h1 := (i a).isLt
    fin_cases a
    · simp at *; omega
    · simp at *; omega
    · simp at *; omega

theorem slot_disjoint {k k' : Fin 8} (h : k ≠ k') : Disjoint (slotSet k) (slotSet k') := by
  rw [Finset.disjoint_left]
  intro i hi hi'
  rw [mem_slotSet] at hi hi'
  exact h (Fin.ext (hi.symm.trans hi'))

theorem slot_cover : (Finset.univ.biUnion slotSet : Finset S8x48x512.Idx) = Finset.univ := by
  ext i
  simp only [Finset.mem_biUnion, Finset.mem_univ, true_and, iff_true]
  exact ⟨⟨(i 0).val, (i 0).isLt⟩, mem_slotSet.mpr rfl⟩

/-- Slot `k` of device `c`'s send buffer, holding the buffer's contents `f` there. -/
def sPts (c : Dev nD) (k : Fin 8) (f : Buf (Elt F) ((c : Thread nD τ).loc cc0_scratch2)) : sProp 𝕄 :=
  (slotS k).view.loc (c : Thread nD τ) ↦[(slotS k).view.set]{fullShare} f
/-- Slot `k` of device `c`'s receive buffer, holding the buffer's contents `f` there. -/
def rPts (c : Dev nD) (k : Fin 8) (f : Buf (Elt F) ((c : Thread nD τ).loc cc0_scratch3)) : sProp 𝕄 :=
  (slotR k).view.loc (c : Thread nD τ) ↦[(slotR k).view.set]{fullShare} f

omit [FloatOps F] in
instance sPts_storable (c : Dev nD) (k : Fin 8) (f) : BI.Storable (upEmb : UEmb _ 𝕄) (sPts (F := F) c k f) := by unfold sPts; infer_instance
omit [FloatOps F] in
instance rPts_storable (c : Dev nD) (k : Fin 8) (f) : BI.Storable (upEmb : UEmb _ 𝕄) (rPts (F := F) c k f) := by unfold rPts; infer_instance

omit [FloatOps F] in
theorem sPts_split (c : Dev nD) (f : Buf (Elt F) ((c : Thread nD τ).loc cc0_scratch2)) :
    (((c : Thread nD τ).loc cc0_scratch2) ↦{fullShare} f : sProp 𝕄) = bigSep Finset.univ fun k => sPts c k f := by
  have h := pointsTo_biUnion (ℓ := (c : Thread nD τ).loc cc0_scratch2) (q := fullShare) (f := f) (Ix := Unit) (Name := ℕ) (U := UU) (Lvl := ℕ)
    Finset.univ slotSet (fun k _ k' _ hk => slot_disjoint hk)
  have hc : (Finset.univ.biUnion slotSet : Finset S8x48x512.Idx) = Finset.univ := slot_cover
  refine (Eq.trans ?_ h).trans (bigSep_congr fun k _ => ?_)
  · exact (congrArg (fun I => (((c : Thread nD τ).loc cc0_scratch2) ↦[I]{fullShare} f : sProp 𝕄)) hc).symm
  · unfold sPts; rw [slotS_set]

omit [FloatOps F] in
theorem rPts_split (c : Dev nD) (f : Buf (Elt F) ((c : Thread nD τ).loc cc0_scratch3)) :
    (((c : Thread nD τ).loc cc0_scratch3) ↦{fullShare} f : sProp 𝕄) = bigSep Finset.univ fun k => rPts c k f := by
  have h := pointsTo_biUnion (ℓ := (c : Thread nD τ).loc cc0_scratch3) (q := fullShare) (f := f) (Ix := Unit) (Name := ℕ) (U := UU) (Lvl := ℕ)
    Finset.univ slotSet (fun k _ k' _ hk => slot_disjoint hk)
  have hc : (Finset.univ.biUnion slotSet : Finset S8x48x512.Idx) = Finset.univ := slot_cover
  refine (Eq.trans ?_ h).trans (bigSep_congr fun k _ => ?_)
  · exact (congrArg (fun I => (((c : Thread nD τ).loc cc0_scratch3) ↦[I]{fullShare} f : sProp 𝕄)) hc).symm
  · unfold rPts; rw [slotR_set]

omit [FloatOps F] in
/-- The eight slots of the receive buffer, at any contents each, are the buffer at some contents. -/
theorem rPts_join (c : Dev nD) (fs : Fin 8 → Buf (Elt F) ((c : Thread nD τ).loc cc0_scratch3)) :
    (bigSep Finset.univ fun k => rPts c k (fs k) : sProp 𝕄) ⊢ iprop(∃ f, ((c : Thread nD τ).loc cc0_scratch3) ↦{fullShare} f) := by
  have h := pointsTo_biUnion_join (ℓ := (c : Thread nD τ).loc cc0_scratch3) (q := fullShare) (Ix := Unit) (Name := ℕ) (U := UU) (Lvl := ℕ)
    Finset.univ slotSet fs (fs 0) (fun k _ k' _ hk => slot_disjoint hk)
  have hc : (Finset.univ.biUnion slotSet : Finset S8x48x512.Idx) = Finset.univ := slot_cover
  have e : (bigSep Finset.univ fun k => rPts c k (fs k) : sProp 𝕄) = bigSep Finset.univ fun k => ((c : Thread nD τ).loc cc0_scratch3) ↦[slotSet k]{fullShare} fs k :=
    bigSep_congr fun k _ => by unfold rPts; rw [slotR_set]
  rw [e]
  refine h.trans ?_
  iintro ⟨%g, -, H⟩
  iexists g
  ihave H' := (Entails.of_eq (congrArg (fun I => (((c : Thread nD τ).loc cc0_scratch3) ↦[I]{fullShare} g : sProp 𝕄)) hc)) $$ H
  iexact H'

/-! ## What a transfer leaves -/

set_option backward.proofsInPublic true in
/-- The receive buffer of device `n` once the frames `A d` of every other device `d` have landed: slot `s` holds the frame that
    device `s` sends to `n`. -/
def landed (A : Dev nD → FVec F S8x48x512 .bf16) (n : Dev nD) : FVec F S8x48x512 .bf16 :=
  fun i => A ⟨(i 0).val, (i 0).isLt⟩ (Function.update i 0 ⟨n.val, n.isLt⟩)

omit [FloatOps F] in
theorem slot_emb_val (k : Fin 8) (x : S48x512.Idx) (a : Fin 3) :
    (((slotR k).view.emb x) a : ℕ) = (![k.val, 0, 0] : Fin 3 → ℕ) a + (Shape.reshapeEquiv (s := S1x48x512) squeezes_S1x48x512_S48x512.numel_eq x a : ℕ) :=
  ValueKit.rect_emb_unit_val (s := S8x48x512) ![k.val, 0, 0] S1x48x512.size (inb3 k) (Shape.reshapeEquiv (s := S1x48x512) squeezes_S1x48x512_S48x512.numel_eq x) a
omit [FloatOps F] in
theorem slot_emb_val' (k : Fin 8) (x : S48x512.Idx) (a : Fin 3) :
    (((slotS k).view.emb x) a : ℕ) = (![k.val, 0, 0] : Fin 3 → ℕ) a + (Shape.reshapeEquiv (s := S1x48x512) squeezes_S1x48x512_S48x512.numel_eq x a : ℕ) :=
  ValueKit.rect_emb_unit_val (s := S8x48x512) ![k.val, 0, 0] S1x48x512.size (inb3 k) (Shape.reshapeEquiv (s := S1x48x512) squeezes_S1x48x512_S48x512.numel_eq x) a

/-- The transfer of device `c`'s frame for `n` into slot `c` of `n`'s receive buffer leaves it as landed. -/
theorem transfer_pts (A : Dev nD → FVec F S8x48x512 .bf16) (c n : Dev nD) (fd : Buf (Elt F) ((n : Thread nD τ).loc cc0_scratch3)) :
    ((slotR c).view.loc (n : Thread nD τ) ↦[(slotR c).view.set]{fullShare} ((slotR c).view.write (Elt F) fd ((slotS n).view.read (Elt F) (A c)) Finset.univ) : sProp 𝕄)
      = rPts n c (landed A n) := by
  unfold rPts
  refine pointsTo_congr fun i hi => ?_
  obtain ⟨x, -, rfl⟩ := Finset.mem_map.mp hi
  refine (View.write_emb_of_mem (v := (slotR c).view) fd _ (Finset.mem_univ x)).trans ?_
  have h0 : (((slotR c).view.emb x) (0 : Fin 3) : ℕ) = c.val := by
    have hi' : (slotR c).view.emb x ∈ slotSet c := by rw [← slotR_set c]; exact hi
    exact mem_slotSet.mp hi'
  have h1 : (slotS n).view.emb x = Function.update ((slotR c).view.emb x) (0 : Fin 3) ⟨n.val, n.isLt⟩ := by
    funext a
    apply Fin.ext
    rw [slot_emb_val']
    by_cases ha : a = 0
    · subst ha
      have h2 := slot_emb_val c x 0
      rw [h0] at h2
      rw [Function.update_self]
      simp at h2 ⊢
    · rw [Function.update_of_ne ha, slot_emb_val]
      fin_cases a
      · exact absurd rfl ha
      · rfl
      · rfl
  have h3 : (⟨(((slotR c).view.emb x) (0 : Fin 3)).val, (((slotR c).view.emb x) (0 : Fin 3)).isLt⟩ : Dev nD) = c := Fin.ext h0
  show A c ((slotS n).view.emb x) = A ⟨(((slotR c).view.emb x) (0 : Fin 3)).val, _⟩ (Function.update ((slotR c).view.emb x) (0 : Fin 3) ⟨n.val, _⟩)
  rw [h1]
  exact congrFun (congrArg A h3.symm) _

end Cert.Moe

end
-- ==== Proof.Protocol.lean ====
/-
The protocol between the devices, in rounds. Every device tells every other that its receive buffer is free: it pays one
unit of the other's barrier cell and hands over the slot that the other will fill. Having been told by all seven, it
sends its seven frames; each frame's arrival hands the receiver the slot with the frame in it, and its departure hands
the sender its own slot back.
-/
module

public import proofs.«01_k».proof.Proof.Slots

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices around the ring -/

set_option backward.proofsInPublic true in
/-- The device `r + 1` places after `c`. -/
def nx (r : ℕ) (c : Dev nD) : Dev nD := ⟨(c.val + 1 + r) % 8, Nat.mod_lt _ (by decide)⟩
set_option backward.proofsInPublic true in
/-- The device `r + 1` places before `c`. -/
def pv (r : ℕ) (c : Dev nD) : Dev nD := ⟨(c.val + 8 - (1 + r)) % 8, Nat.mod_lt _ (by decide)⟩
set_option backward.proofsInPublic true in
/-- Device `n`. -/
def dv (n : ℕ) : Dev nD := ⟨n % 8, Nat.mod_lt _ (by decide)⟩

theorem nx_ne (c : Dev nD) (r : Fin 7) : nx r.val c ≠ c := by revert c r; decide
theorem pv_ne (c : Dev nD) (r : Fin 7) : pv r.val c ≠ c := by revert c r; decide

/-! ## The cells -/

/-- The runtime's barrier semaphore. -/
abbrev barS : Sem sig := (SemArray.scalar (sig.barrier 0 rfl) : Sems sig S_).sem

abbrev barCell (c : Dev nD) : GSem nD τ sig := ((c : Thread nD τ), .reg barS)
abbrev sendCell (c : Dev nD) (k : Fin 8) : GSem nD τ sig := ((c : Thread nD τ), .dma (sendSem k))
abbrev recvCell (c : Dev nD) (k : Fin 8) : GSem nD τ sig := ((c : Thread nD τ), .dma (recvSem k))

/-- What a frame credits the cell that counts it. -/
abbrev N : ℕ := (slotR 0).view.dmaCredit
theorem N_pos : 0 < N := View.dmaCredit_pos _ (by decide)

/-! ## The schedule -/

variable (A : Dev nD → FVec F S8x48x512 .bf16)

/-- What device `d` hands device `c` with its unit of the barrier: slot `c` of its receive buffer, and that the cell counting that
    slot has reached round 0. -/
def barPay (c d : Dev nD) : sProp 𝕄 := iprop((∃ f, rPts d c f) ∗ reached ER (recvCell d c) 0)

omit [FloatOps F] in
instance barPay_storable (c d : Dev nD) : BI.Storable (upEmb : UEmb _ 𝕄) (barPay (F := F) c d) := by unfold barPay; infer_instance

/-- The duties of a cell of device `c` at its one round. -/
def duty (c : Dev nD) : SemLoc sig → Finset (Fin 8)
  | .reg _ => Finset.univ.erase c
  | .dma q => if 4 ≤ q.val ∧ q.val ≠ 4 + c.val ∧ q.val ≠ 12 + c.val then {0} else ∅

/-- What paying duty `d` of a cell of device `c` hands over. -/
def pay (c d : Dev nD) : SemLoc sig → sProp 𝕄
  | .reg _ => barPay c d
  | .dma q => if 12 ≤ q.val then rPts c (dv (q.val - 12)) (landed A c) else sPts c (dv (q.val - 4)) (A c)

/-- The units of a duty. -/
def amt : SemLoc sig → ℕ
  | .reg _ => 1
  | .dma _ => N

instance pay_storable (c d : Dev nD) (s : SemLoc sig) : BI.Storable (upEmb : UEmb _ 𝕄) (pay A c d s) := by
  cases s with
  | reg _ => exact barPay_storable c d
  | dma q =>
    show BI.Storable (upEmb : UEmb _ 𝕄) (if 12 ≤ q.val then rPts c (dv (q.val - 12)) (landed A c) else sPts c (dv (q.val - 4)) (A c))
    by_cases h : 12 ≤ q.val
    · rw [if_pos h]; infer_instance
    · rw [if_neg h]; infer_instance

/-- The rounds: only round 0 has duties. -/
def rd : Rounds.Schedule (GSem nD τ sig) (Fin 8) 𝕄 where
  duties g r := if r = 0 ∧ g.1.2 = .tc then duty g.1.1 g.2 else ∅
  unitless _ := False
  amount g _ _ := amt g.2
  payload g _ d := pay A g.1.1 d g.2
  amount_pos g _ _ _ := by cases g.2 with
    | reg _ => exact Nat.one_pos
    | dma _ => exact N_pos

instance rd_payload_storable (g : GSem nD τ sig) (r : ℕ) (d : Fin 8) : BI.Storable (upEmb : UEmb _ 𝕄) ((rd A).payload g r d) :=
  pay_storable A _ _ _

section Sched
variable (c k : Dev nD)

theorem duty_send (h : k ≠ c) : duty c (.dma (sendSem k)) = {0} := by
  revert c k; decide
theorem duty_recv (h : k ≠ c) : duty c (.dma (recvSem k)) = {0} := by
  revert c k; decide
theorem duty_send_self : duty c (.dma (sendSem c)) = ∅ := by revert c; decide
theorem duty_recv_self : duty c (.dma (recvSem c)) = ∅ := by revert c; decide

omit [FloatOps F] in
theorem duties_zero (s : SemLoc sig) : (rd A).duties ((c : Thread nD τ), s) 0 = duty c s := by
  show (if (0 : ℕ) = 0 ∧ (c : Thread nD τ).2 = .tc then duty c s else ∅) = _
  rw [if_pos ⟨rfl, rfl⟩]
omit [FloatOps F] in
theorem duties_bar : (rd A).duties (barCell c) 0 = Finset.univ.erase c := duties_zero A c _
omit [FloatOps F] in
theorem duties_send (h : k ≠ c) : (rd A).duties (sendCell c k) 0 = {0} := (duties_zero A c _).trans (duty_send c k h)
omit [FloatOps F] in
theorem duties_recv (h : k ≠ c) : (rd A).duties (recvCell c k) 0 = {0} := (duties_zero A c _).trans (duty_recv c k h)
omit [FloatOps F] in
theorem duties_later (g : GSem nD τ sig) : ∀ r, 1 ≤ r → (rd A).duties g r = ∅ := fun r hr => if_neg fun h => by omega
omit [FloatOps F] in
theorem duties_send_self : ∀ r, 0 ≤ r → (rd A).duties (sendCell c c) r = ∅ := fun r _ => by
  show (if r = 0 ∧ _ then duty c (.dma (sendSem c)) else ∅) = _
  rw [duty_send_self, ite_self]
omit [FloatOps F] in
theorem duties_recv_self : ∀ r, 0 ≤ r → (rd A).duties (recvCell c c) r = ∅ := fun r _ => by
  show (if r = 0 ∧ _ then duty c (.dma (recvSem c)) else ∅) = _
  rw [duty_recv_self, ite_self]

omit [FloatOps F] in
theorem expect_bar : (rd A).expect (barCell c) 0 = 7 := by
  unfold Schedule.expect Schedule.amountOf
  rw [duties_bar]
  show (Finset.univ.erase c).sum (fun _ => 1) = 7
  revert c; decide
omit [FloatOps F] in
theorem expect_send (h : k ≠ c) : (rd A).expect (sendCell c k) 0 = N := by
  unfold Schedule.expect Schedule.amountOf; rw [duties_send A c k h, Finset.sum_singleton]; rfl
omit [FloatOps F] in
theorem expect_recv (h : k ≠ c) : (rd A).expect (recvCell c k) 0 = N := by
  unfold Schedule.expect Schedule.amountOf; rw [duties_recv A c k h, Finset.sum_singleton]; rfl

theorem dv_recv : dv ((recvSem k).val - 12) = k := by revert k; decide
theorem dv_send : dv ((sendSem k).val - 4) = k := by revert k; decide

omit [FloatOps F] in
theorem payload_bar (d : Fin 8) : (rd A).payload (barCell c) 0 d = barPay c d := rfl
omit [FloatOps F] in
theorem payload_send (d : Fin 8) : (rd A).payload (sendCell c k) 0 d = sPts c k (A c) := by
  show (if 12 ≤ (sendSem k).val then rPts c (dv ((sendSem k).val - 12)) (landed A c) else sPts c (dv ((sendSem k).val - 4)) (A c)) = _
  rw [if_neg (by revert k; decide), dv_send]
omit [FloatOps F] in
theorem payload_recv (d : Fin 8) : (rd A).payload (recvCell c k) 0 d = rPts c k (landed A c) := by
  show (if 12 ≤ (recvSem k).val then rPts c (dv ((recvSem k).val - 12)) (landed A c) else sPts c (dv ((recvSem k).val - 4)) (A c)) = _
  rw [if_pos (by revert k; decide), dv_recv]

/-- A conjunction over the seven other devices, in the order in which `c` sends. -/
theorem bigSep_others {M : Type} [URA M] (Φ : Dev nD → sProp M) : bigSep (Finset.univ.erase c) Φ
    = iprop(Φ (nx 0 c) ∗ Φ (nx 1 c) ∗ Φ (nx 2 c) ∗ Φ (nx 3 c) ∗ Φ (nx 4 c) ∗ Φ (nx 5 c) ∗ Φ (nx 6 c)) :=
  bigSep_eq_bigSepL_of_eq [nx 0 c, nx 1 c, nx 2 c, nx 3 c, nx 4 c, nx 5 c, nx 6 c] (by revert c; decide) (by revert c; decide) Φ
/-- A conjunction over the devices: `c`, then the others in the order in which `c` sends. -/
theorem bigSep_nx {M : Type} [URA M] (Φ : Dev nD → sProp M) : bigSep Finset.univ Φ
    = iprop(Φ c ∗ Φ (nx 0 c) ∗ Φ (nx 1 c) ∗ Φ (nx 2 c) ∗ Φ (nx 3 c) ∗ Φ (nx 4 c) ∗ Φ (nx 5 c) ∗ Φ (nx 6 c)) :=
  bigSep_univ_eq_bigSepL [c, nx 0 c, nx 1 c, nx 2 c, nx 3 c, nx 4 c, nx 5 c, nx 6 c] (by revert c; decide) (by revert c; decide) Φ
/-- A conjunction over the devices: `c`, then the others in the order in which `c` receives. -/
theorem bigSep_pv {M : Type} [URA M] (Φ : Dev nD → sProp M) : bigSep Finset.univ Φ
    = iprop(Φ c ∗ Φ (pv 0 c) ∗ Φ (pv 1 c) ∗ Φ (pv 2 c) ∗ Φ (pv 3 c) ∗ Φ (pv 4 c) ∗ Φ (pv 5 c) ∗ Φ (pv 6 c)) :=
  bigSep_univ_eq_bigSepL [c, pv 0 c, pv 1 c, pv 2 c, pv 3 c, pv 4 c, pv 5 c, pv 6 c] (by revert c; decide) (by revert c; decide) Φ
/-- A conjunction over the devices, in order. -/
theorem bigSep_dev {M : Type} [URA M] (Φ : Dev nD → sProp M) : bigSep Finset.univ Φ
    = iprop(Φ (dv 0) ∗ Φ (dv 1) ∗ Φ (dv 2) ∗ Φ (dv 3) ∗ Φ (dv 4) ∗ Φ (dv 5) ∗ Φ (dv 6) ∗ Φ (dv 7)) :=
  bigSep_univ_eq_bigSepL [dv 0, dv 1, dv 2, dv 3, dv 4, dv 5, dv 6, dv 7] (by decide) (by decide) Φ

omit [FloatOps F] in
theorem rest_bar : bigSep ((rd A).duties (barCell c) 0 \ ∅) (fun d => (rd A).payload (barCell c) 0 d)
    = bigSep (Finset.univ.erase c) (fun d => barPay c d) := by
  rw [Finset.sdiff_empty, duties_bar]; rfl
omit [FloatOps F] in
theorem rest_send (h : k ≠ c) : bigSep ((rd A).duties (sendCell c k) 0 \ ∅) (fun d => (rd A).payload (sendCell c k) 0 d) = sPts c k (A c) := by
  rw [Finset.sdiff_empty, duties_send A c k h, bigSep_singleton, payload_send]
omit [FloatOps F] in
theorem rest_recv (h : k ≠ c) : bigSep ((rd A).duties (recvCell c k) 0 \ ∅) (fun d => (rd A).payload (recvCell c k) 0 d) = rPts c k (landed A c) := by
  rw [Finset.sdiff_empty, duties_recv A c k h, bigSep_singleton, payload_recv]

end Sched

/-! ## What a device owes; the levels -/

/-- The unit that device `c` owes device `i`'s barrier cell. -/
def barOwe (c i : Dev nD) : CellTallies nD τ sig Unit := if i = c then 0 else tallyAt (barCell i) () 1
/-- The credit that device `c` owes the cell of the slot it fills by its transfer `r`. -/
def sendOwe (c : Dev nD) (r : ℕ) : CellTallies nD τ sig Unit := tallyAt (recvCell (nx r c) c) () N

/-- What `c` owes with `n` transfers to go. -/
def oS (c : Dev nD) : ℕ → CellTallies nD τ sig Unit
  | 0 => 0
  | n + 1 => oS c n + sendOwe c (6 - n)
/-- What `c` owes with `n` signals (and every transfer) to go. -/
def oB (c : Dev nD) : ℕ → CellTallies nD τ sig Unit
  | 0 => oS c 7
  | n + 1 => oB c n + barOwe c (dv (7 - n))

def O₀ (c : Dev nD) : CellTallies nD τ sig Unit := oB c 8

theorem bar_eq_iff {a b : Dev nD} : Iff (barCell a = barCell b) (a = b) :=
  ⟨fun h => Fin.ext (congrArg (fun g : GSem nD τ sig => g.1.1.val) h), fun h => h ▸ rfl⟩
theorem recvSem_inj {k k' : Fin 8} (h : recvSem k = recvSem k') : k = k' := by
  have := congrArg Fin.val h; simp only [recvSem] at this; exact Fin.ext (by omega)
theorem sendSem_inj {k k' : Fin 8} (h : sendSem k = sendSem k') : k = k' := by
  have := congrArg Fin.val h; simp only [sendSem] at this; exact Fin.ext (by omega)
theorem recv_eq_iff {a b k k' : Dev nD} : Iff (recvCell a k = recvCell b k') (a = b ∧ k = k') :=
  ⟨fun h => ⟨Fin.ext (congrArg (fun g : GSem nD τ sig => g.1.1.val) h),
    recvSem_inj (SemLoc.dma.inj (congrArg Prod.snd h))⟩, fun ⟨h, h'⟩ => by rw [h, h']⟩
theorem recv_ne_bar {a b k : Dev nD} : recvCell a k ≠ barCell b := fun h => by cases congrArg Prod.snd h

theorem barOwe_bar (c i b : Dev nD) : barOwe c i (barCell b) () = if i = c then 0 else if b = i then 1 else 0 := by
  unfold barOwe
  split
  · rfl
  · rw [tallyAt_apply]
    exact if_congr ⟨fun h => bar_eq_iff.mp h.1, fun h => ⟨bar_eq_iff.mpr h, rfl⟩⟩ rfl rfl
theorem barOwe_recv (c i b k : Dev nD) : barOwe c i (recvCell b k) () = 0 := by
  unfold barOwe
  split
  · rfl
  · rw [tallyAt_apply, if_neg fun h => recv_ne_bar h.1]
theorem sendOwe_bar (c b : Dev nD) (r : ℕ) : sendOwe c r (barCell b) () = 0 := by
  unfold sendOwe; rw [tallyAt_apply, if_neg fun h => recv_ne_bar h.1.symm]
theorem sendOwe_recv (c b k : Dev nD) (r : ℕ) : sendOwe c r (recvCell b k) () = N * (if b = nx r c ∧ k = c then 1 else 0) := by
  unfold sendOwe
  rw [tallyAt_apply, mul_ite, mul_one, mul_zero]
  exact if_congr ⟨fun h => recv_eq_iff.mp h.1, fun h => ⟨recv_eq_iff.mpr h, rfl⟩⟩ rfl rfl

/-- What device `d` owes device `c`'s barrier cell. -/
theorem owed_bar (d c : Dev nD) : O₀ d (barCell c) () = if d = c then 0 else 1 := by
  simp only [O₀, oB, oS, Pi.add_apply, Finsupp.add_apply, barOwe_bar, sendOwe_bar]
  rw [show (0 : CellTallies nD τ sig Unit) (barCell c) () = 0 from rfl]
  revert d c; decide
/-- What device `d` owes device `c`'s cell of slot `k`. -/
theorem owed_recv (d c k : Dev nD) : O₀ d (recvCell c k) () = N * (if d = k ∧ k ≠ c then 1 else 0) := by
  simp only [O₀, oB, oS, Pi.add_apply, Finsupp.add_apply, barOwe_recv, sendOwe_recv]
  rw [show (0 : CellTallies nD τ sig Unit) (recvCell c k) () = 0 from rfl]
  simp only [add_zero, zero_add, ← mul_add]
  congr 1
  revert d c k; decide

def L (g : GSem nD τ sig) : Finset Unit := if g.1.2 = .tc then {()} else ∅
/-- The levels: barrier cells at 1, arrivals at 2, the rest at 0. -/
def lvs : SemLoc sig → ℕ
  | .reg _ => 1
  | .dma q => if 12 ≤ q.val then 2 else 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl
theorem lvs_recv (k : Fin 8) : lvs (.dma (recvSem k)) = 2 := by revert k; decide

theorem sendOwe_pos {c : Dev nD} {r : ℕ} {g : GSem nD τ sig} {u : Unit} (h : 0 < sendOwe c r g u) : g.1.2 = .tc ∧ lvs g.2 = 2 := by
  unfold sendOwe at h
  rw [tallyAt_apply] at h
  by_cases hg : g = recvCell (nx r c) c ∧ u = ()
  · rw [hg.1]; exact ⟨rfl, lvs_recv c⟩
  · rw [if_neg hg] at h; exact absurd h (Nat.lt_irrefl 0)
theorem barOwe_pos {c i : Dev nD} {g : GSem nD τ sig} {u : Unit} (h : 0 < barOwe c i g u) : g.1.2 = .tc ∧ lvs g.2 = 1 := by
  unfold barOwe at h
  split at h
  · exact absurd h (Nat.lt_irrefl 0)
  · rw [tallyAt_apply] at h
    by_cases hg : g = barCell i ∧ u = ()
    · rw [hg.1]; exact ⟨rfl, rfl⟩
    · rw [if_neg hg] at h; exact absurd h (Nat.lt_irrefl 0)
theorem oS_pos {c : Dev nD} {g : GSem nD τ sig} {u : Unit} : (n : ℕ) → 0 < oS c n g u → g.1.2 = .tc ∧ lvs g.2 = 2
  | 0, h => absurd h (Nat.lt_irrefl 0)
  | n + 1, h => by
    rw [oS, Pi.add_apply, Finsupp.add_apply] at h
    rcases Nat.add_pos_iff_pos_or_pos.mp h with h | h
    · exact oS_pos n h
    · exact sendOwe_pos h
theorem oB_pos {c : Dev nD} {g : GSem nD τ sig} {u : Unit} : (n : ℕ) → 0 < oB c n g u → g.1.2 = .tc ∧ 1 ≤ lvs g.2
  | 0, h => by have := oS_pos 7 h; exact ⟨this.1, by omega⟩
  | n + 1, h => by
    rw [oB, Pi.add_apply, Finsupp.add_apply] at h
    rcases Nat.add_pos_iff_pos_or_pos.mp h with h | h
    · exact oB_pos n h
    · have := barOwe_pos h; exact ⟨this.1, by omega⟩

omit [FloatOps F] in
theorem mayWait_of (c : Dev nD) (s : SemLoc sig) (O : CellTallies nD τ sig Unit) (n : ℕ) (hs : lvs s = n)
    (hO : ∀ (g : GSem nD τ sig) (u : Unit), 0 < O g u → g.1.2 = .tc ∧ n < lvs g.2) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hs.le)
    (fun g u hg => (hO g u hg).2)

omit [FloatOps F] in
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · exact mayWait_of c _ _ 0 (by show (if 12 ≤ q.val then 2 else 0) = 0; rw [if_neg (by omega)]) fun g u hg => by
      have := oB_pos 8 hg; exact ⟨this.1, by omega⟩
  · rw [MayWait_zero]; iintro -; iempintro

omit [FloatOps F] in
/-- At its barrier wait a device owes arrivals only. -/
theorem mayWait_bar (c : Dev nD) : (levAts L lv : sProp 𝕄) ⊢ MayWait (c : Thread nD τ) (.reg barS) () (oS c 7) :=
  mayWait_of c _ _ 1 rfl fun g u hg => by have := oS_pos 7 hg; exact ⟨this.1, by omega⟩

end Cert.Moe

end
-- ==== Proof.Steps.lean ====
/-
One step of the kernel's communication at a time: the barrier's signal to device `i`, the barrier's wait, the transfer of
a frame, the wait for a frame's arrival, the wait for a frame's departure. Each is stated for every device `c`, over the
facts that all the cells' invariants hold and that their rounds are open.
-/
module

public import proofs.«01_k».proof.Proof.Protocol

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Every cell's invariant -/

/-- A device's cells: the barrier's, then its sixteen own semaphores. -/
abbrev CellIx : Type := Option (Fin 16)

set_option backward.proofsInPublic true in
/-- The own semaphores: the eight that count departures, then the eight that count arrivals. -/
def osem (i : Fin 16) : SemLoc sig := .dma ⟨4 + i.val, by have := i.isLt; show 4 + i.val < 20; omega⟩
/-- The semaphore of a device's cell. -/
def csem : CellIx → SemLoc sig
  | none => .reg barS
  | some i => osem i
abbrev kcell (ck : Dev nD × CellIx) : GSem nD τ sig := ((ck.1 : Thread nD τ), csem ck.2)

set_option backward.proofsInPublic true in
def ixS (k : Fin 8) : Fin 16 := ⟨k.val, by have := k.isLt; omega⟩
set_option backward.proofsInPublic true in
def ixR (k : Fin 8) : Fin 16 := ⟨8 + k.val, by have := k.isLt; omega⟩

theorem osem_S (k : Fin 8) : osem (ixS k) = .dma (sendSem k) := rfl
theorem osem_R (k : Fin 8) : osem (ixR k) = .dma (recvSem k) := by revert k; decide
theorem kcell_R (c k : Dev nD) : kcell (c, some (ixR k)) = recvCell c k := by rw [kcell, csem, osem_R]

section Steps
variable (A : Dev nD → FVec F S8x48x512 .bf16) (K : Dev nD × CellIx → ℕ)

/-- Every cell's invariant, and that its round 0 is reached. -/
def records : sProp 𝕄 := bigSep Finset.univ fun ck : Dev nD × CellIx => iprop(cellInv ER (rd A) (K ck) (kcell ck) ∗ reached ER (kcell ck) 0)

instance records_persistent : BI.Persistent (records A K) := by unfold records; infer_instance

theorem rec_at (ck : Dev nD × CellIx) : records A K ⊢ iprop(cellInv ER (rd A) (K ck) (kcell ck) ∗ reached ER (kcell ck) 0) := by
  unfold records; exact bigSep_elim (Finset.mem_univ ck)
theorem rec_bar (c : Dev nD) : records A K ⊢ iprop(cellInv ER (rd A) (K (c, none)) (barCell c) ∗ reached ER (barCell c) 0) := rec_at A K (c, none)
theorem rec_send (c k : Dev nD) : records A K ⊢ iprop(cellInv ER (rd A) (K (c, some (ixS k))) (sendCell c k) ∗ reached ER (sendCell c k) 0) :=
  rec_at A K (c, some (ixS k))
theorem rec_recv (c k : Dev nD) : records A K ⊢ iprop(cellInv ER (rd A) (K (c, some (ixR k))) (recvCell c k) ∗ reached ER (recvCell c k) 0) := by
  rw [← kcell_R]; exact rec_at A K (c, some (ixR k))

/-- What a device owes, whatever it has waited for. -/
def owesE (c : Dev nD) (O : CellTallies nD τ sig Unit) : sProp 𝕄 := iprop(∃ W, owes (c : Thread nD τ) O W)

/-- What `c` hands to device `i` at the barrier: nothing to itself. -/
def slotPay (c i : Dev nD) : sProp 𝕄 := if i = c then iprop(emp) else iprop(∃ f, rPts c i f)

theorem bigSep_self {M : Type} [URA M] (c : Dev nD) (Φ : Dev nD → sProp M) : bigSep Finset.univ Φ = iprop(Φ c ∗ bigSep (Finset.univ.erase c) Φ) :=
  bigSep_erase (Finset.mem_univ c)

omit [FloatOps F] in
/-- The slots of the receive buffer, shared out: its own stays, each other's goes. -/
theorem slots_give (c : Dev nD) (f : (cc0_scratch3 : Ref sig .tc).ty.Contents (Elt F)) :
    bigSep Finset.univ (fun k : Dev nD => (rPts c k f : sProp 𝕄)) ⊢ iprop((∃ f, rPts c c f) ∗ bigSep Finset.univ (slotPay (F := F) c)) := by
  have h : bigSep (Finset.univ.erase c) (fun k : Dev nD => (rPts c k f : sProp 𝕄)) ⊢ bigSep (Finset.univ.erase c) (slotPay (F := F) c) :=
    bigSep_mono fun k hk => by
      unfold slotPay; rw [if_neg (Finset.ne_of_mem_erase hk)]
      show (rPts c k f : sProp 𝕄) ⊢ iprop(∃ f, rPts c k f)
      iintro H; iexists f; iexact H
  have h0 : (slotPay c c : sProp 𝕄) = iprop(emp) := if_pos rfl
  rw [bigSep_self c (fun k : Dev nD => (rPts c k f : sProp 𝕄)), bigSep_self c (slotPay (F := F) c), h0]
  iintro ⟨H, Hr⟩
  isplitl [H]; · iexists f; iexact H
  isplitr; · iempintro
  iapply h; iexact Hr

/-- The barrier's signal to device `i`, which `c` skips at itself. -/
theorem signal_step (c i : Dev nD) {cond : Prop} [Decidable cond] (hc : Iff cond (i ≠ c)) {dev : cond → Dev nD} (hd : ∀ h, dev h = i)
    (O : CellTallies nD τ sig Unit) {α : Type} {Q : α → sProp 𝕄} {k : Prog (TpuEff nD τ sig (Elt F) Λ₀ .tc) α} :
    iprop(records A K ∗ owesE c (O + barOwe c i) ∗ dutyTok ER (barCell i) 0 c ∗ slotPay c i)
      ⊢ iprop((owesE c O -∗ wp frame (wpE (defs₀ (F := F)) 𝒱₀ (c : Thread nD τ) none) Set.univ k Q)
          -∗ wp frame (wpE (defs₀ (F := F)) 𝒱₀ (c : Thread nD τ) none) Set.univ
            (if h : cond then (do semSignalWord (dev h : Dev nD) barS 1#32; k) else k) Q) := by
  by_cases h : cond
  · have hi := hc.mp h
    rw [dif_pos h, hd h]
    simp only [semSignalWord, Prog.lift, Prog.bind_op, Prog.bind_ret]
    unfold slotPay barOwe owesE
    rw [if_neg hi, if_neg hi]
    iintro ⟨#HR, ⟨%W, HO⟩, Ht, ⟨%f, Hs⟩⟩ Hk
    icases (rec_bar A K i) $$ HR with ⟨#HI, #Hr⟩
    icases (rec_recv A K c i) $$ HR with ⟨-, #Hr'⟩
    iapply (Rounds.wp_signal 𝒱₀ ER (rd A) (c : Thread nD τ) none (dst := (i : Thread nD τ)) (κ := K (i, none))
      (d := c) (by rw [duties_bar]; exact Finset.mem_erase.mpr ⟨hi.symm, Finset.mem_univ _⟩) (show (1 : ℕ) = _ by decide) () O rfl) $$ [HO Ht Hs]
    · isplitr; · iexact HI
      isplitl [HO]; · iexact HO
      isplitl [Ht]; · iexact Ht
      isplitl [Hs]
      · rw [payload_bar]; unfold barPay
        isplitl [Hs]; · iexists f; iexact Hs
        iexact Hr'
      iexact Hr
    iintro HO
    iapply Hk
    iexists W; iexact HO
  · have hi : i = c := by by_contra h'; exact h (hc.mpr h')
    rw [dif_neg h]
    unfold barOwe
    rw [if_pos hi, add_zero]
    iintro ⟨-, HO, -, -⟩ Hk
    iapply Hk; iexact HO

/-- What the barrier's wait brings from the device that `c`'s transfer `r` goes to: the slot it fills. -/
def freed (c : Dev nD) (r : ℕ) : sProp 𝕄 := iprop(∃ f, rPts (nx r c) c f)

/-- The wait for the seven units of the barrier. -/
theorem bar_wait (c : Dev nD) {α : Type} {Q : α → sProp 𝕄} {k : PUnit → Prog (TpuEff nD τ sig (Elt F) Λ₀ .tc) α} :
    iprop(records A K ∗ levAts L lv ∗ cred (tallyAt (barCell c) () 7) ∗ owesE c (oS c 7) ∗ atPos ER (barCell c) 0 ∅ 0)
      ⊢ iprop(((owesE c (oS c 7) ∗ atPos ER (barCell c) 1 ∅ 0
            ∗ freed c 0 ∗ freed c 1 ∗ freed c 2 ∗ freed c 3 ∗ freed c 4 ∗ freed c 5 ∗ freed c 6)
          -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  unfold owesE freed
  iintro ⟨#HR, #Hlev, Hc, ⟨%W, HO⟩, Hat⟩ Hk
  icases (rec_bar A K c) $$ HR with ⟨#HI, -⟩
  iapply (Rounds.wp_wait_rest_token 𝒱₀ ER (rd A) (c : Thread nD τ) none (κ := K (c, none))
      (wpE_semWait_eq 𝒱₀ (c : Thread nD τ) none Set.univ) (Set.mem_univ _) () (O := oS c 7) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  iapply Hk
  isplitl [HO]; · iexists _; iexact HO
  isplitl [Hat]; · iexact Hat
  ihave Hp := (Entails.of_eq ((rest_bar A c).trans (bigSep_others c _))) $$ Hpay
  unfold barPay
  icases Hp with ⟨⟨H0, -⟩, ⟨H1, -⟩, ⟨H2, -⟩, ⟨H3, -⟩, ⟨H4, -⟩, ⟨H5, -⟩, ⟨H6, -⟩⟩
  isplitl [H0]; · iexact H0
  isplitl [H1]; · iexact H1
  isplitl [H2]; · iexact H2
  isplitl [H3]; · iexact H3
  isplitl [H4]; · iexact H4
  isplitl [H5]; · iexact H5
  iexact H6

/-- What transfer `r` takes from its sender: the frame, and the two duties it pays. -/
def pend (c : Dev nD) (r : ℕ) : sProp 𝕄 :=
  iprop(sPts c (nx r c) (A c) ∗ dutyTok ER (sendCell c (nx r c)) 0 0 ∗ dutyTok ER (recvCell (nx r c) c) 0 0)

theorem landing (c n : Dev nD) (fd : (cc0_scratch3 : Ref sig .tc).ty.Contents (Elt F)) :
    ((slotR c).view.loc (n : Thread nD τ) ↦[(slotR c).view.set]{fullShare}
        ((slotR c).view.write (Elt F) fd ((slotS n).view.read (Elt F) (A c)) Finset.univ) : sProp 𝕄)
      ⊢ (rd A).payload (recvCell n c) 0 0 := by
  rw [payload_recv, transfer_pts]

theorem credit_R (k : Fin 8) (s : DmaSem sig) : (slotR k).view.amount (.dma s) = N := rfl

/-- The transfer from slot `n` of `c`'s send buffer into slot `c` of `n`'s receive buffer. -/
theorem send_slot (c n : Dev nD) (hn : n ≠ c) (O : CellTallies nD τ sig Unit) (W : Waits sig Unit) (fd : (cc0_scratch3 : Ref sig .tc).ty.Contents (Elt F))
    {hsc hsrc hdst hsem} {α : Type} {Q : α → sProp 𝕄} {k : PUnit → Prog (TpuEff nD τ sig (Elt F) Λ₀ .tc) α} :
    iprop(cellInv ER (rd A) (K (c, some (ixS n))) (sendCell c n) ∗ cellInv ER (rd A) (K (n, some (ixR c))) (recvCell n c)
        ∗ sPts c n (A c) ∗ rPts n c fd
        ∗ owes (c : Thread nD τ) (O + tallyAt (recvCell n c) () N) W
        ∗ dutyTok ER (sendCell c n) 0 0 ∗ reached ER (sendCell c n) 0
        ∗ dutyTok ER (recvCell n c) 0 0 ∗ reached ER (recvCell n c) 0)
      ⊢ iprop(((cred (tallyAt (sendCell c n) () N) ∗ owes (c : Thread nD τ) O W)
          -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (slotS n) (.remote (Dev.tc n) (slotR c) (.dma (sendSem n)) hsc) (.dma (recvSem c)) hsrc hdst hsem) k) Q) := by
  unfold sPts rPts
  exact Rounds.wp_send_pointsTo 𝒱₀ ER (rd A) (c : Thread nD τ) none (κ₁ := K (c, some (ixS n))) (κ₂ := K (n, some (ixR c)))
    (c' := (n : Thread nD τ)) (src := slotS n) (dst := slotR c) (fs := A c) (r₁ := 0) (r₂ := 0) (d₁ := 0) (d₂ := 0) (fd := fd)
    (by rw [duties_send A c _ hn]; exact Finset.mem_singleton_self _)
    (by rw [duties_recv A _ c hn.symm]; exact Finset.mem_singleton_self _)
    () () N (credit_R c _) rfl rfl O rfl (W := W) (by rw [payload_send]; exact BI.Entails.refl _) (landing A c n fd)

/-- Transfer `r`: the frame for the device `r + 1` places on leaves for its slot `c`. -/
theorem send_step (c : Dev nD) (r m : ℕ) (hr : nx r c ≠ c) (hm : r = 6 - m) {n : Dev nD} (hn : n = nx r c)
    {o4 o3 : Fin 3 → ℕ} (h4 : o4 = ![(nx r c).val, 0, 0]) (h3 : o3 = ![c.val, 0, 0])
    {sS sR : DmaSem sig} (hS : sS = sendSem (nx r c)) (hR : sR = recvSem c)
    {hb4 : ∀ a, o4 a + S1x48x512.size a ≤ S8x48x512.size a} {hb3 : ∀ a, o3 a + S1x48x512.size a ≤ S8x48x512.size a}
    {hsc hsrc hdst hsem} {α : Type} {Q : α → sProp 𝕄} {k : PUnit → Prog (TpuEff nD τ sig (Elt F) Λ₀ .tc) α} :
    iprop(records A K ∗ owesE c (oS c (m + 1)) ∗ pend A c r ∗ freed c r)
      ⊢ iprop(((owesE c (oS c m) ∗ cred (tallyAt (sendCell c (nx r c)) () N))
          -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (((Memref.whole cc0_scratch2).slice (Rect.unit (s := S8x48x512) o4 S1x48x512.size hb4) (fun _ => rfl)).squeeze S48x512 squeezes_S1x48x512_S48x512)
              (.remote (Dev.tc n) (((Memref.whole cc0_scratch3).slice (Rect.unit (s := S8x48x512) o3 S1x48x512.size hb3) (fun _ => rfl)).squeeze S48x512 squeezes_S1x48x512_S48x512)
                (.dma sS) hsc) (.dma sR) hsrc hdst hsem) k) Q) := by
  subst hn h4 h3 hS hR
  have hO : oS c (m + 1) = oS c m + tallyAt (recvCell (nx r c) c) () N := by
    show oS c m + sendOwe c (6 - m) = _
    unfold sendOwe; rw [← hm]
  rw [hO]
  unfold owesE pend freed
  iintro ⟨#HR, ⟨%W, HO⟩, ⟨Hs, Ht, Ht'⟩, ⟨%fd, Hd⟩⟩ Hk
  icases (rec_send A K c (nx r c)) $$ HR with ⟨#HI, #Hr⟩
  icases (rec_recv A K (nx r c) c) $$ HR with ⟨#HI', #Hr'⟩
  iapply (send_slot A K c (nx r c) hr (oS c m) W fd) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iexact Hc

/-- The wait for the frame of device `k`. -/
theorem recv_wait (c k : Dev nD) (hk : k ≠ c) {sR : DmaSem sig} (hR : sR = recvSem k) {o8 : Fin 3 → ℕ}
    {hb8 : ∀ a, o8 a + S1x48x512.size a ≤ S8x48x512.size a} {sp : Space} {s : Shape} {e : EltTy} {src : Memref sig .tc sp s e}
    {hsrc hdst} {α : Type} {Q : α → sProp 𝕄} {kk : PUnit → Prog (TpuEff nD τ sig (Elt F) Λ₀ .tc) α} :
    iprop(records A K ∗ owesE c 0 ∗ cred (tallyAt (recvCell c k) () N) ∗ atPos ER (recvCell c k) 0 ∅ 0)
      ⊢ iprop(((owesE c 0 ∗ rPts c k (landed A c) ∗ atPos ER (recvCell c k) 1 ∅ 0)
          -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 sR src (((Memref.whole cc0_scratch3).slice (Rect.unit (s := S8x48x512) o8 S1x48x512.size hb8) (fun _ => rfl)).squeeze S48x512 squeezes_S1x48x512_S48x512)
              hsrc hdst) kk) Q) := by
  subst hR
  unfold owesE
  iintro ⟨#HR, ⟨%W, HO⟩, Hc, Hat⟩ Hk
  icases (rec_recv A K c k) $$ HR with ⟨#HI, -⟩
  iapply (Rounds.wp_wait_rest_token 𝒱₀ ER (rd A) (c : Thread nD τ) none (κ := K (c, some (ixR k)))
      (wpE_waitDma2_eq 𝒱₀ (c : Thread nD τ) none Set.univ) (Set.mem_univ _) () (O := 0) (W := W) (R := 0) (m := 0) (T := ∅)
      (by rw [Nat.zero_add, expect_recv A c k hk]; rfl)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv A c k hk)) $$ Hpay
  iapply Hk
  isplitl [HO]; · iexists _; iexact HO
  isplitl [Hp]; · iexact Hp
  iexact Hat

/-- The wait for the departure of the frame for device `k`. -/
theorem send_wait (c k : Dev nD) (hk : k ≠ c) {sS : DmaSem sig} (hS : sS = sendSem k) {o4 : Fin 3 → ℕ}
    {hb4 : ∀ a, o4 a + S1x48x512.size a ≤ S8x48x512.size a} {sp : Space} {s : Shape} {e : EltTy} {src : Memref sig .tc sp s e}
    {hsrc hdst} {α : Type} {Q : α → sProp 𝕄} {kk : PUnit → Prog (TpuEff nD τ sig (Elt F) Λ₀ .tc) α} :
    iprop(records A K ∗ owesE c 0 ∗ cred (tallyAt (sendCell c k) () N) ∗ atPos ER (sendCell c k) 0 ∅ 0)
      ⊢ iprop(((owesE c 0 ∗ sPts c k (A c) ∗ atPos ER (sendCell c k) 1 ∅ 0)
          -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 sS src (((Memref.whole cc0_scratch2).slice (Rect.unit (s := S8x48x512) o4 S1x48x512.size hb4) (fun _ => rfl)).squeeze S48x512 squeezes_S1x48x512_S48x512)
              hsrc hdst) kk) Q) := by
  subst hS
  unfold owesE
  iintro ⟨#HR, ⟨%W, HO⟩, Hc, Hat⟩ Hk
  icases (rec_send A K c k) $$ HR with ⟨#HI, -⟩
  iapply (Rounds.wp_wait_rest_token 𝒱₀ ER (rd A) (c : Thread nD τ) none (κ := K (c, some (ixS k)))
      (wpE_waitDma2_eq 𝒱₀ (c : Thread nD τ) none Set.univ) (Set.mem_univ _) () (O := 0) (W := W) (R := 0) (m := 0) (T := ∅)
      (by rw [Nat.zero_add, expect_send A c k hk]; rfl)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send A c k hk)) $$ Hpay
  iapply Hk
  isplitl [HO]; · iexists _; iexact HO
  isplitl [Hp]; · iexact Hp
  iexact Hat

/-- The frame in slot `k` of the receive buffer's contents `g`. -/
def frameAt (g : (cc0_scratch3 : Ref sig .tc).ty.Contents (Elt F)) (k : Fin 8) : Vec F S1x48x512 .bf16 :=
  (Memref.whole cc0_scratch3 : Memref sig .tc .vmem S8x48x512 .bf16).view.readAt (Elt F) (Rect.unit (s := S8x48x512) ![k.val, 0, 0] S1x48x512.size (inb3 k)).toLoadRect g

/-- The load of slot `k`. -/
theorem load_slot (c k : Dev nD) (g : (cc0_scratch3 : Ref sig .tc).ty.Contents (Elt F)) {o9 : Fin 3 → ℕ} (h9 : o9 = ![k.val, 0, 0])
    {hb9 : ∀ a, o9 a + S1x48x512.size a ≤ S8x48x512.size a} {hl}
    {α : Type} {Q : α → sProp 𝕄} {kk : Vec F S1x48x512 .bf16 → Prog (TpuEff nD τ sig (Elt F) Λ₀ .tc) α} :
    rPts c k g ⊢ iprop((rPts c k g -∗ wp frame (wpE (defs₀ (F := F)) 𝒱₀ (c : Thread nD τ) none) Set.univ (kk (frameAt g k)) Q)
      -∗ wp frame (wpE (defs₀ (F := F)) 𝒱₀ (c : Thread nD τ) none) Set.univ
        (.op (.load (Memref.whole cc0_scratch3) (Rect.unit (s := S8x48x512) o9 S1x48x512.size hb9).toLoadRect hl) kk) Q) := by
  subst h9
  unfold rPts
  exact wp_load 𝒱₀ (c : Thread nD τ) none Set.univ (m := Memref.whole cc0_scratch3) (by
    rw [slotR_set]
    intro i hi
    obtain ⟨j, hj, rfl⟩ := Finset.mem_map.mp hi
    exact hj)

end Steps

/-! ## Where the kernel's offsets and devices are -/

section Offsets
variable (c : Dev nD)

theorem off1_eq (r : Fin 7) : k0_off1 c (BitVec.ofNat 32 (1 + r.val)) = ![(nx r.val c).val] := by revert c r; decide +kernel
theorem off4_eq (r : Fin 7) : k0_off4 c (BitVec.ofNat 32 (1 + r.val)) = ![(nx r.val c).val, 0, 0] := by revert c r; decide +kernel
theorem off7_eq (r : Fin 7) : k0_off7 c (BitVec.ofNat 32 (1 + r.val)) = ![(pv r.val c).val] := by revert c r; decide +kernel
theorem off9_eq (r : Fin 7) : k0_off9 c (BitVec.ofNat 32 (1 + r.val)) = ![(pv r.val c).val, 0, 0] := by revert c r; decide +kernel
theorem dev9_eq (h) : (⟨k0_dev9 c, h⟩ : Dev nD) = nx 0 c := Fin.ext (by show k0_dev9 c = (nx 0 c).val; clear h; revert c; decide +kernel)
theorem dev10_eq (h) : (⟨k0_dev10 c, h⟩ : Dev nD) = nx 1 c := Fin.ext (by show k0_dev10 c = (nx 1 c).val; clear h; revert c; decide +kernel)
theorem dev11_eq (h) : (⟨k0_dev11 c, h⟩ : Dev nD) = nx 2 c := Fin.ext (by show k0_dev11 c = (nx 2 c).val; clear h; revert c; decide +kernel)
theorem dev12_eq (h) : (⟨k0_dev12 c, h⟩ : Dev nD) = nx 3 c := Fin.ext (by show k0_dev12 c = (nx 3 c).val; clear h; revert c; decide +kernel)
theorem dev13_eq (h) : (⟨k0_dev13 c, h⟩ : Dev nD) = nx 4 c := Fin.ext (by show k0_dev13 c = (nx 4 c).val; clear h; revert c; decide +kernel)
theorem dev14_eq (h) : (⟨k0_dev14 c, h⟩ : Dev nD) = nx 5 c := Fin.ext (by show k0_dev14 c = (nx 5 c).val; clear h; revert c; decide +kernel)
theorem dev15_eq (h) : (⟨k0_dev15 c, h⟩ : Dev nD) = nx 6 c := Fin.ext (by show k0_dev15 c = (nx 6 c).val; clear h; revert c; decide +kernel)

theorem off1_0 : k0_off1 c 1#32 = ![(nx 0 c).val] := off1_eq c 0
theorem off1_1 : k0_off1 c 2#32 = ![(nx 1 c).val] := off1_eq c 1
theorem off1_2 : k0_off1 c 3#32 = ![(nx 2 c).val] := off1_eq c 2
theorem off1_3 : k0_off1 c 4#32 = ![(nx 3 c).val] := off1_eq c 3
theorem off1_4 : k0_off1 c 5#32 = ![(nx 4 c).val] := off1_eq c 4
theorem off1_5 : k0_off1 c 6#32 = ![(nx 5 c).val] := off1_eq c 5
theorem off1_6 : k0_off1 c 7#32 = ![(nx 6 c).val] := off1_eq c 6
theorem off4_0 : k0_off4 c 1#32 = ![(nx 0 c).val, 0, 0] := off4_eq c 0
theorem off4_1 : k0_off4 c 2#32 = ![(nx 1 c).val, 0, 0] := off4_eq c 1
theorem off4_2 : k0_off4 c 3#32 = ![(nx 2 c).val, 0, 0] := off4_eq c 2
theorem off4_3 : k0_off4 c 4#32 = ![(nx 3 c).val, 0, 0] := off4_eq c 3
theorem off4_4 : k0_off4 c 5#32 = ![(nx 4 c).val, 0, 0] := off4_eq c 4
theorem off4_5 : k0_off4 c 6#32 = ![(nx 5 c).val, 0, 0] := off4_eq c 5
theorem off4_6 : k0_off4 c 7#32 = ![(nx 6 c).val, 0, 0] := off4_eq c 6
theorem off7_0 : k0_off7 c 1#32 = ![(pv 0 c).val] := off7_eq c 0
theorem off7_1 : k0_off7 c 2#32 = ![(pv 1 c).val] := off7_eq c 1
theorem off7_2 : k0_off7 c 3#32 = ![(pv 2 c).val] := off7_eq c 2
theorem off7_3 : k0_off7 c 4#32 = ![(pv 3 c).val] := off7_eq c 3
theorem off7_4 : k0_off7 c 5#32 = ![(pv 4 c).val] := off7_eq c 4
theorem off7_5 : k0_off7 c 6#32 = ![(pv 5 c).val] := off7_eq c 5
theorem off7_6 : k0_off7 c 7#32 = ![(pv 6 c).val] := off7_eq c 6
theorem off9_0 : k0_off9 c 1#32 = ![(pv 0 c).val, 0, 0] := off9_eq c 0
theorem off9_1 : k0_off9 c 2#32 = ![(pv 1 c).val, 0, 0] := off9_eq c 1
theorem off9_2 : k0_off9 c 3#32 = ![(pv 2 c).val, 0, 0] := off9_eq c 2
theorem off9_3 : k0_off9 c 4#32 = ![(pv 3 c).val, 0, 0] := off9_eq c 3
theorem off9_4 : k0_off9 c 5#32 = ![(pv 4 c).val, 0, 0] := off9_eq c 4
theorem off9_5 : k0_off9 c 6#32 = ![(pv 5 c).val, 0, 0] := off9_eq c 5
theorem off9_6 : k0_off9 c 7#32 = ![(pv 6 c).val, 0, 0] := off9_eq c 6

end Offsets

end Cert.Moe

end
-- ==== Proof.Chain.lean ====
/-
What one device computes, as a chain of the printed payloads: from the staged contents of its operands to the
routing tables, the frames that it sends, and its block of the result as a function of the frames that land on it.
Nothing here is about the machine: these are the names that the run's statement uses for contents.
-/
module

public import proofs.«01_k».proof.Proof.Gen.KernelIdeal.Skeleton

@[expose] public section

set_option synthInstance.maxSize 4096

noncomputable section

namespace Cert.Moe

open Cert.KernelIdeal Cert.KernelIdeal.Gen
open Idealize.ShloMosaic Idealize.ShloMosaic.TcCoe Idealize.SL.Sem

variable {F : FTy → Type} [FloatOps F]

/-! ## The device's position and the routing tables -/

/-- The device's position along the mesh, as the body computes its word. -/
def posW (c : Dev nD) : BitVec 32 := Scalar.remsi (Scalar.divsi (Dev.word c) 1#32) 8#32

section Routing

variable (E : Vec F S1024x1 .i32)

/-- The expert named by each token. -/
def expertOf : IVec S1024x1 32 := k0_pay1 (F := F) E
/-- The experts' numbers along a row. -/
def expertIds : IVec S1024x32 32 := iota .tc S1024x32 32 [1] iota_S1024x32_d1_w32
/-- Which token names which expert, as a condition. -/
def isExpert : IVec S1024x32 1 := k0_pay2 (expertOf E) expertIds
/-- The same as zeros and ones. -/
def oneHot : FVec F S1024x32 .bf16 := k0_pay3 (F := F) (expertOf E) expertIds
/-- The strictly lower triangle of a block of 128 tokens. -/
def tri : FVec F S128x128 .bf16 := k0_pay4 (F := F)
/-- The strictly lower triangle of the eight blocks. -/
def tri8 : FVec F S8x8 .bf16 := k0_pay5 (F := F)
/-- How many tokens of each block name each expert. -/
def perBlock : FVec F S8x32 .bf16 := k0_pay6 (F := F) (expertOf E) expertIds
/-- An accumulator of zeros. -/
def zero832 : FVec F S8x32 .f32 := constant S8x32 .f32 0x00000000#32
/-- How many tokens of the earlier blocks name each expert. -/
def before8 : FVec F S8x32 .f32 := k0_pay7 tri8 (perBlock E) zero832

/-- A token's place among the tokens of its expert. -/
def rankOf : FVec F S1024x1 .f32 :=
  k0_pay14 (isExpert E) (oneHot E) tri (before8 E)
    (k0_pay8 (isExpert E) (oneHot E) tri tri8 (perBlock E) zero832) (k0_pay9 (isExpert E) (oneHot E) tri tri8 (perBlock E) zero832)
    (k0_pay10 (isExpert E) (oneHot E) tri tri8 (perBlock E) zero832) (k0_pay11 (isExpert E) (oneHot E) tri tri8 (perBlock E) zero832)
    (k0_pay12 (oneHot E) tri tri8 (perBlock E) zero832) (k0_pay13 (isExpert E))
/-- Whether the token is within its expert's capacity. -/
def keptOf : IVec S1024x1 1 :=
  k0_pay15 (isExpert E) (oneHot E) tri (before8 E)
    (k0_pay8 (isExpert E) (oneHot E) tri tri8 (perBlock E) zero832) (k0_pay9 (isExpert E) (oneHot E) tri tri8 (perBlock E) zero832)
    (k0_pay10 (isExpert E) (oneHot E) tri tri8 (perBlock E) zero832) (k0_pay11 (isExpert E) (oneHot E) tri tri8 (perBlock E) zero832)
    (k0_pay12 (oneHot E) tri tri8 (perBlock E) zero832) (k0_pay13 (isExpert E))
/-- The device that owns the token's expert. -/
def ownerOf : IVec S1024x1 32 :=
  k0_pay19 (expertOf E) 4#32 (k0_pay16 (expertOf E)) (k0_pay17 (expertOf E)) (k0_pay18 (expertOf E))
/-- The devices' numbers along a row. -/
def devIds : IVec S1024x8 32 := iota .tc S1024x8 32 [1] iota_S1024x8_d1_w32
/-- The token's row in the frame that each device sends to the token's block, or −1. -/
def slotOf : FVec F S1024x8 .f32 :=
  k0_pay20 (expertOf E) tri (keptOf E) 4#32 (k0_pay16 (expertOf E)) (k0_pay17 (expertOf E)) (k0_pay18 (expertOf E))
/-- The table of rows as stored. -/
def slotTable : FVec F S1024x8 .f32 := k0_pay21 (slotOf E)

variable (c : Dev nD)

/-- The token's row in the frame of device `c`. -/
def mySlot : FVec F S1024x1 .f32 := k0_pay22 (posW c) devIds (slotOf E)
/-- The token's row among the tokens device `c` computes, or −1, as stored. -/
def gsTable : FVec F S1024x1 .f32 := k0_pay24 (posW c) (expertOf E) (rankOf E) (keptOf E) (ownerOf E)
/-- The selection of the tokens that device `c` computes. -/
def pick : FVec F S1024x128 .bf16 := k0_pay25 (posW c) (expertOf E) (rankOf E) (keptOf E) (ownerOf E)

variable (X : Vec F S1024x256 .bf16) (W : Vec F S4x256x512 .bf16)

/-- The tokens that device `c` computes, gathered. -/
def gathered : FVec F S128x256 .bf16 := k0_pay26 (posW c) (expertOf E) (rankOf E) (keptOf E) (ownerOf E) X
/-- The gathered tokens, each in the quarter of its expert. -/
def spread : FVec F S128x1024 .bf16 :=
  k0_pay29 (gathered E c X) (iota .tc S128x1024 32 [1] iota_S128x1024_d1_w32) 256#32 k0_pay27 k0_pay28 (Scalar.cmpi .sgt 256#32 0#32)
/-- Their products with their experts' matrices. -/
def products : FVec F S128x512 .bf16 := k0_pay31 (spread E c X) (k0_pay30 W)
/-- The frames that device `c` sends: one for each block of tokens. -/
def frames : FVec F S8x48x512 .bf16 := k0_pay34 (mySlot E c) (pick E c) (spread E c X) (k0_pay30 W)

end Routing

/-! ## The block of the result -/

/-- The block's rows of the table of rows among the computed tokens. -/
def gsRows (c : Dev nD) (g : FVec F S1024x1 .f32) : Vec F S128x1 .f32 :=
  (Memref.whole cc0_scratch1 : Memref sig .tc .vmem S1024x1 .f32).view.readAt (Elt F)
    (Rect.unit (s := S1024x1) (k0_off5 c) S128x1.size (k0_off5_inb c)).toLoadRect g
/-- The block's rows of the table of rows in the frames. -/
def slotRows (c : Dev nD) (g : FVec F S1024x8 .f32) : Vec F S128x8 .f32 :=
  (Memref.whole cc0_scratch0 : Memref sig .tc .vmem S1024x8 .f32).view.readAt (Elt F)
    (Rect.unit (s := S1024x8) (k0_off6 c) S128x8.size (k0_off6_inb c)).toLoadRect g

/-- The word of the device `j` places before position `v2` on the ring, as the body computes it. -/
def backW (v2 j : BitVec 32) : BitVec 32 :=
  let a : BitVec 32 := Scalar.subi v2 j
  let n : BitVec 32 := Scalar.select (Scalar.cmpi .eq 8#32 0#32) 1#32 8#32
  let r : BitVec 32 := Scalar.remsi a n
  Scalar.select (Scalar.andi (Scalar.xori (Scalar.cmpi .slt r 0#32) (Scalar.cmpi .slt n 0#32)) (Scalar.cmpi .ne r 0#32)) (Scalar.addi r n) r

/-- The block after the device's own share. -/
def acc0 (P : FVec F S128x512 .bf16) (g : Vec F S128x1 .f32) : FVec F S128x512 .f32 := k0_pay35 P k0_pay33 g

/-- The block after the share of the frame `b` from the device whose word is `w`. -/
def accStep (w : BitVec 32) (sl : Vec F S128x8 .f32) (b : Vec F S1x48x512 .bf16) (acc : FVec F S128x512 .f32) : FVec F S128x512 .f32 :=
  k0_pay36 k0_pay32 acc sl w (iota .tc S128x8 32 [1] iota_S128x8_d1_w32) b

/-- The block of the result from position `v2`, the device's own products, its rows of the two tables and the seven frames. -/
def outOf (v2 : BitVec 32) (P : FVec F S128x512 .bf16) (g : Vec F S128x1 .f32) (sl : Vec F S128x8 .f32) (b : Fin 7 → Vec F S1x48x512 .bf16) : FVec F S128x512 .f32 :=
  accStep (backW v2 7#32) sl (b 6) <| accStep (backW v2 6#32) sl (b 5) <| accStep (backW v2 5#32) sl (b 4) <|
    accStep (backW v2 4#32) sl (b 3) <| accStep (backW v2 3#32) sl (b 2) <| accStep (backW v2 2#32) sl (b 1) <|
      accStep (backW v2 1#32) sl (b 0) (acc0 P g)

/-! The printed body cuts the later shares in two; each pair is the one step. -/

variable (v2 : BitVec 32) (acc : FVec F S128x512 .f32) (sl : Vec F S128x8 .f32) (b : Vec F S1x48x512 .bf16)

theorem step2 : k0_pay38 k0_pay32 sl acc (k0_pay37 (F := F) v2) b = accStep (backW v2 2#32) sl b acc := rfl
theorem step3 : k0_pay40 k0_pay32 acc (k0_pay39 v2 sl) b = accStep (backW v2 3#32) sl b acc := rfl
theorem step4 : k0_pay42 acc (k0_pay41 v2 k0_pay32 sl) b = accStep (backW v2 4#32) sl b acc := rfl
theorem step5 : k0_pay44 acc (k0_pay43 v2 k0_pay32 sl) b = accStep (backW v2 5#32) sl b acc := rfl
theorem step67 (b' : Vec F S1x48x512 .bf16) :
    k0_pay46 v2 k0_pay32 sl acc (k0_pay45 v2 k0_pay32 sl b) b' = accStep (backW v2 7#32) sl b' (accStep (backW v2 6#32) sl b acc) := rfl

end Cert.Moe

end
-- ==== Proof.BodyLocal.lean ====
/-
The first part of the body: the barrier's signals, and the local work up to the frames stored in the send buffer.
-/
module

public import proofs.«01_k».proof.Proof.Steps
public import proofs.«01_k».proof.Proof.Chain

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A device's buffer `b`, whole, holding `f`. -/
abbrev bpts (c : Dev nD) (b : Ref sig .tc) (f : Buf (Elt F) ((c : Thread nD τ).loc b)) : sProp 𝕄 := ((c : Thread nD τ).loc b) ↦{fullShare} f

section Local
variable (A : Dev nD → FVec F S8x48x512 .bf16) (K₀ : Dev nD × CellIx → ℕ) (c : Dev nD)

theorem cond1_iff (c : Dev nD) : Iff (k0_cond1 c = 1#1) (dv 0 ≠ c) := by revert c; decide +kernel
theorem cond2_iff (c : Dev nD) : Iff (k0_cond2 c = 1#1) (dv 1 ≠ c) := by revert c; decide +kernel
theorem cond3_iff (c : Dev nD) : Iff (k0_cond3 c = 1#1) (dv 2 ≠ c) := by revert c; decide +kernel
theorem cond4_iff (c : Dev nD) : Iff (k0_cond4 c = 1#1) (dv 3 ≠ c) := by revert c; decide +kernel
theorem cond5_iff (c : Dev nD) : Iff (k0_cond5 c = 1#1) (dv 4 ≠ c) := by revert c; decide +kernel
theorem cond6_iff (c : Dev nD) : Iff (k0_cond6 c = 1#1) (dv 5 ≠ c) := by revert c; decide +kernel
theorem cond7_iff (c : Dev nD) : Iff (k0_cond7 c = 1#1) (dv 6 ≠ c) := by revert c; decide +kernel
theorem cond8_iff (c : Dev nD) : Iff (k0_cond8 c = 1#1) (dv 7 ≠ c) := by revert c; decide +kernel
theorem dev1_eq (h : k0_dev1 < nD) : (⟨k0_dev1, h⟩ : Dev nD) = dv 0 := Fin.ext k0_dev1_eq
theorem dev2_eq (h : k0_dev2 < nD) : (⟨k0_dev2, h⟩ : Dev nD) = dv 1 := Fin.ext k0_dev2_eq
theorem dev3_eq (h : k0_dev3 < nD) : (⟨k0_dev3, h⟩ : Dev nD) = dv 2 := Fin.ext k0_dev3_eq
theorem dev4_eq (h : k0_dev4 < nD) : (⟨k0_dev4, h⟩ : Dev nD) = dv 3 := Fin.ext k0_dev4_eq
theorem dev5_eq (h : k0_dev5 < nD) : (⟨k0_dev5, h⟩ : Dev nD) = dv 4 := Fin.ext k0_dev5_eq
theorem dev6_eq (h : k0_dev6 < nD) : (⟨k0_dev6, h⟩ : Dev nD) = dv 5 := Fin.ext k0_dev6_eq
theorem dev7_eq (h : k0_dev7 < nD) : (⟨k0_dev7, h⟩ : Dev nD) = dv 6 := Fin.ext k0_dev7_eq
theorem dev8_eq (h : k0_dev8 < nD) : (⟨k0_dev8, h⟩ : Dev nD) = dv 7 := Fin.ext k0_dev8_eq

theorem zero2 : (![0, 0] : Fin 2 → Nat) = fun _ => 0 := funext fun a => by fin_cases a <;> rfl
theorem zero3 : (![0, 0, 0] : Fin 3 → Nat) = fun _ => 0 := funext fun a => by fin_cases a <;> rfl

omit [FloatOps F] in
theorem read_x (f : (cc0_stg0_0 : Ref sig .tc).ty.Contents (Elt F)) :
    (Memref.whole cc0_stg0_0 : Memref sig .tc .vmem S1024x256 .bf16).view.readAt (Elt F) (Rect.unit (s := S1024x256) ![0, 0] S1024x256.size inb_S1024x256_S1024x256_0_0).toLoadRect f = f :=
  Memref.readAt_unit_zero (Elt F) cc0_stg0_0 zero2 _ f
omit [FloatOps F] in
theorem read_idx (f : (cc0_stg1_0 : Ref sig .tc).ty.Contents (Elt F)) :
    (Memref.whole cc0_stg1_0 : Memref sig .tc .vmem S1024x1 .i32).view.readAt (Elt F) (Rect.unit (s := S1024x1) ![0, 0] S1024x1.size inb_S1024x1_S1024x1_0_0).toLoadRect f = f :=
  Memref.readAt_unit_zero (Elt F) cc0_stg1_0 zero2 _ f
omit [FloatOps F] in
theorem read_w (f : (cc0_stg2_0 : Ref sig .tc).ty.Contents (Elt F)) :
    (Memref.whole cc0_stg2_0 : Memref sig .tc .vmem S4x256x512 .bf16).view.readAt (Elt F) (Rect.unit (s := S4x256x512) ![0, 0, 0] S4x256x512.size inb_S4x256x512_S4x256x512_0_0_0).toLoadRect f = f :=
  Memref.readAt_unit_zero (Elt F) cc0_stg2_0 zero3 _ f
omit [FloatOps F] in
theorem write_slots (f w : (cc0_scratch0 : Ref sig .tc).ty.Contents (Elt F)) :
    ((Memref.whole cc0_scratch0 : Memref sig .tc .vmem S1024x8 .f32).access (Rect.unit (s := S1024x8) ![0, 0] S1024x8.size inb_S1024x8_S1024x8_0_0) : View sig .tc _ _ _).write (Elt F) f w Finset.univ = w :=
  Memref.write_access_unit_zero_univ (Elt F) cc0_scratch0 zero2 _ f w
omit [FloatOps F] in
theorem write_gs (f w : (cc0_scratch1 : Ref sig .tc).ty.Contents (Elt F)) :
    ((Memref.whole cc0_scratch1 : Memref sig .tc .vmem S1024x1 .f32).access (Rect.unit (s := S1024x1) ![0, 0] S1024x1.size inb_S1024x1_S1024x1_0_0) : View sig .tc _ _ _).write (Elt F) f w Finset.univ = w :=
  Memref.write_access_unit_zero_univ (Elt F) cc0_scratch1 zero2 _ f w
omit [FloatOps F] in
theorem write_frames (f w : (cc0_scratch2 : Ref sig .tc).ty.Contents (Elt F)) :
    ((Memref.whole cc0_scratch2 : Memref sig .tc .vmem S8x48x512 .bf16).access (Rect.unit (s := S8x48x512) ![0, 0, 0] S8x48x512.size inb_S8x48x512_S8x48x512_0_0_0) : View sig .tc _ _ _).write (Elt F) f w Finset.univ = w :=
  Memref.write_access_unit_zero_univ (Elt F) cc0_scratch2 zero3 _ f w
omit [FloatOps F] in
theorem write_out (f w : (cc0_stg3_0 : Ref sig .tc).ty.Contents (Elt F)) :
    ((Memref.whole cc0_stg3_0 : Memref sig .tc .vmem S128x512 .f32).access (Rect.unit (s := S128x512) ![0, 0] S128x512.size inb_S128x512_S128x512_0_0) : View sig .tc _ _ _).write (Elt F) f w Finset.univ = w :=
  Memref.write_access_unit_zero_univ (Elt F) cc0_stg3_0 zero2 _ f w

theorem device_step {K : Dev nD → sProp 𝕄} : K c ⊢ wp frame (wpE (defs₀ (F := F)) 𝒱₀ (c : Thread nD τ) none) Set.univ (Prog.lift .deviceId) K := by
  simp only [Prog.lift, wp_deviceId, wp_ret]
  iintro H; imodintro; iexact H

set_option maxHeartbeats 800000 in
/-- The barrier's signals and the load of the routing indices. -/
theorem part1_step (E : Vec F S1024x1 .i32) {K : _ → sProp 𝕄} :
    iprop((records A K₀ ∗ owesE c (oB c 8) ∗ bigSep Finset.univ (fun i : Dev nD => dutyTok ER (barCell i) 0 c) ∗ bigSep Finset.univ (slotPay (F := F) c) ∗ bpts c cc0_stg1_0 E) ∗ ((owesE c (oB c 0) ∗ bpts c cc0_stg1_0 E) -∗ K ⟨c, Scalar.remsi (Scalar.divsi (Dev.word c) 1#32) 8#32, SemArray.scalar (sig.barrier 0 rfl), k0_pay1 (F := F) E, iota .tc S1024x32 32 [1] iota_S1024x32_d1_w32⟩))
      ⊢ wp frame (wpE (defs₀ (F := F)) 𝒱₀ (c : Thread nD τ) none) Set.univ (k0_part1 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5) K := by
  rw [k0_part1_eq_skeleton]
  unfold k0_part1_skel
  iintro ⟨⟨#HR, HO, Ht, Hs, HE⟩, Hk⟩
  rw [wp_bind]
  iapply (device_step c)
  ihave Ht := (Entails.of_eq (bigSep_dev (fun i : Dev nD => (dutyTok ER (barCell i) 0 c : sProp 𝕄)))) $$ Ht
  ihave Hs := (Entails.of_eq (bigSep_dev (slotPay (F := F) c))) $$ Hs
  icases Ht with ⟨Ht0, Ht1, Ht2, Ht3, Ht4, Ht5, Ht6, Ht7⟩
  icases Hs with ⟨Hs0, Hs1, Hs2, Hs3, Hs4, Hs5, Hs6, Hs7⟩
  iapply (signal_step A K₀ c (dv 0) (cond1_iff c) (fun h => dev1_eq (k0_dev1_lt c h)) (oB c 7)) $$ [HO Ht0 Hs0]
  · isplitr; · iexact HR
    isplitl [HO]; · iexact HO
    isplitl [Ht0] <;> iassumption
  iintro HO
  iapply (signal_step A K₀ c (dv 1) (cond2_iff c) (fun h => dev2_eq (k0_dev2_lt c h)) (oB c 6)) $$ [HO Ht1 Hs1]
  · isplitr; · iexact HR
    isplitl [HO]; · iexact HO
    isplitl [Ht1] <;> iassumption
  iintro HO
  iapply (signal_step A K₀ c (dv 2) (cond3_iff c) (fun h => dev3_eq (k0_dev3_lt c h)) (oB c 5)) $$ [HO Ht2 Hs2]
  · isplitr; · iexact HR
    isplitl [HO]; · iexact HO
    isplitl [Ht2] <;> iassumption
  iintro HO
  iapply (signal_step A K₀ c (dv 3) (cond4_iff c) (fun h => dev4_eq (k0_dev4_lt c h)) (oB c 4)) $$ [HO Ht3 Hs3]
  · isplitr; · iexact HR
    isplitl [HO]; · iexact HO
    isplitl [Ht3] <;> iassumption
  iintro HO
  iapply (signal_step A K₀ c (dv 4) (cond5_iff c) (fun h => dev5_eq (k0_dev5_lt c h)) (oB c 3)) $$ [HO Ht4 Hs4]
  · isplitr; · iexact HR
    isplitl [HO]; · iexact HO
    isplitl [Ht4] <;> iassumption
  iintro HO
  iapply (signal_step A K₀ c (dv 5) (cond6_iff c) (fun h => dev6_eq (k0_dev6_lt c h)) (oB c 2)) $$ [HO Ht5 Hs5]
  · isplitr; · iexact HR
    isplitl [HO]; · iexact HO
    isplitl [Ht5] <;> iassumption
  iintro HO
  iapply (signal_step A K₀ c (dv 6) (cond7_iff c) (fun h => dev7_eq (k0_dev7_lt c h)) (oB c 1)) $$ [HO Ht6 Hs6]
  · isplitr; · iexact HR
    isplitl [HO]; · iexact HO
    isplitl [Ht6] <;> iassumption
  iintro HO
  iapply (signal_step A K₀ c (dv 7) (cond8_iff c) (fun h => dev8_eq (k0_dev8_lt c h)) (oB c 0)) $$ [HO Ht7 Hs7]
  · isplitr; · iexact HR
    isplitl [HO]; · iexact HO
    isplitl [Ht7] <;> iassumption
  iintro HO
  simp only [Prog.bind_op, Prog.bind_ret, Prog.pure_eq_ret]
  iapply (wp_load 𝒱₀ (c : Thread nD τ) none Set.univ (m := Memref.whole cc0_stg1_0) (Finset.subset_univ _)) $$ HE; iintro HE
  rw [read_idx]; simp only [Prog.bind]; rw [wp_ret]; imodintro
  iapply Hk
  isplitl [HO] <;> iassumption

/-- The table of rows: the load of the buffer's old contents. -/
theorem part5_step (v29 : IVec S1024x1 32) (v41 : FVec F S128x128 .bf16) (v173 : IVec S1024x1 1) (w : BitVec 32) (v175 v178 v181 : IVec S1024x1 32) {K : _ → sProp 𝕄} :
    iprop((∃ f, bpts c cc0_scratch0 f) ∗ ((∃ f, bpts c cc0_scratch0 f) -∗ K ⟨k0_pay19 v29 w v175 v178 v181, iota .tc S1024x8 32 [1] iota_S1024x8_d1_w32, k0_pay20 v29 v41 v173 w v175 v178 v181⟩))
      ⊢ wp frame (wpE (defs₀ (F := F)) 𝒱₀ (c : Thread nD τ) none) Set.univ (k0_part5 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 v29 v41 v173 w v175 v178 v181) K := by
  rw [k0_part5_eq_skeleton]
  unfold k0_part5_skel
  iintro ⟨⟨%f, H⟩, Hk⟩
  simp only [Prog.lift, Prog.bind_op, Prog.bind_ret, Prog.pure_eq_ret]
  iapply (wp_load 𝒱₀ (c : Thread nD τ) none Set.univ (m := Memref.whole cc0_scratch0) (Finset.subset_univ _)) $$ H; iintro H
  rw [wp_ret]; imodintro
  iapply Hk
  iexists f; iexact H

/-- The stores of the two tables. -/
theorem part6_step (X : Vec F S1024x256 .bf16) (v2 : BitVec 32) (v29 : IVec S1024x1 32) (v171 : FVec F S1024x1 .f32) (v173 : IVec S1024x1 1) (v197 : IVec S1024x1 32) (v198 : IVec S1024x8 32) (v224 : FVec F S1024x8 .f32) {K : _ → sProp 𝕄} :
    iprop(((∃ f, bpts c cc0_scratch0 f) ∗ (∃ f, bpts c cc0_scratch1 f) ∗ bpts c cc0_stg0_0 X) ∗ ((bpts c cc0_scratch0 (k0_pay21 v224) ∗ bpts c cc0_scratch1 (k0_pay24 v2 v29 v171 v173 v197) ∗ bpts c cc0_stg0_0 X) -∗ K ⟨k0_pay22 v2 v198 v224, k0_pay25 v2 v29 v171 v173 v197, k0_pay26 v2 v29 v171 v173 v197 X, iota .tc S128x1024 32 [1] iota_S128x1024_d1_w32, 256#32, k0_pay27, k0_pay28, Scalar.cmpi .sgt 256#32 0#32⟩))
      ⊢ wp frame (wpE (defs₀ (F := F)) 𝒱₀ (c : Thread nD τ) none) Set.univ (k0_part6 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 v2 v29 v171 v173 v197 v198 v224) K := by
  rw [k0_part6_eq_skeleton]
  unfold k0_part6_skel
  iintro ⟨⟨⟨%f0, H0⟩, ⟨%f1, H1⟩, HX⟩, Hk⟩
  simp only [Prog.lift, Prog.bind_op, Prog.bind_ret, Prog.pure_eq_ret]
  iapply (wp_store 𝒱₀ (c : Thread nD τ) none Set.univ (m := Memref.whole cc0_scratch0) (r := Rect.unit (s := S1024x8) ![0, 0] S1024x8.size inb_S1024x8_S1024x8_0_0) (Mk := Finset.univ) (Finset.subset_univ _)) $$ H0; iintro H0
  iapply (wp_load 𝒱₀ (c : Thread nD τ) none Set.univ (m := Memref.whole cc0_scratch1) (Finset.subset_univ _)) $$ H1; iintro H1
  iapply (wp_store 𝒱₀ (c : Thread nD τ) none Set.univ (m := Memref.whole cc0_scratch1) (r := Rect.unit (s := S1024x1) ![0, 0] S1024x1.size inb_S1024x1_S1024x1_0_0) (Mk := Finset.univ) (Finset.subset_univ _)) $$ H1; iintro H1
  iapply (wp_load 𝒱₀ (c : Thread nD τ) none Set.univ (m := Memref.whole cc0_stg0_0) (Finset.subset_univ _)) $$ HX; iintro HX
  rw [read_x, wp_ret, write_slots,
    write_gs]; imodintro
  iapply Hk
  isplitl [H0]; · iexact H0
  isplitl [H1] <;> iassumption

/-- The load of the experts' matrices. -/
theorem part7_step (W : Vec F S4x256x512 .bf16) (v260 : FVec F S128x256 .bf16) (v261 : IVec S128x1024 32) (w : BitVec 32) (v263 v270 : IVec S128x1024 32) (v271 : BitVec 1) {K : _ → sProp 𝕄} :
    iprop((bpts c cc0_stg2_0 W) ∗ ((bpts c cc0_stg2_0 W) -∗ K ⟨k0_pay29 v260 v261 w v263 v270 v271, k0_pay30 W⟩))
      ⊢ wp frame (wpE (defs₀ (F := F)) 𝒱₀ (c : Thread nD τ) none) Set.univ (k0_part7 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 v260 v261 w v263 v270 v271) K := by
  rw [k0_part7_eq_skeleton]
  unfold k0_part7_skel
  iintro ⟨H, Hk⟩
  simp only [Prog.lift, Prog.bind_op, Prog.bind_ret, Prog.pure_eq_ret]
  iapply (wp_load 𝒱₀ (c : Thread nD τ) none Set.univ (m := Memref.whole cc0_stg2_0) (Finset.subset_univ _)) $$ H; iintro H
  rw [read_w, wp_ret]; imodintro
  iapply Hk; iexact H

/-- The frames stored. -/
theorem part8_step (v234 : FVec F S1024x1 .f32) (v256 : FVec F S1024x128 .bf16) (v316 : FVec F S128x1024 .bf16) (v318 : FVec F S4x256x512 .bf16) {K : _ → sProp 𝕄} :
    iprop((∃ f, bpts c cc0_scratch2 f) ∗ ((bpts c cc0_scratch2 (k0_pay34 v234 v256 v316 v318)) -∗ K ⟨k0_pay31 v316 v318, k0_pay32, k0_pay33⟩))
      ⊢ wp frame (wpE (defs₀ (F := F)) 𝒱₀ (c : Thread nD τ) none) Set.univ (k0_part8 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 v234 v256 v316 v318) K := by
  rw [k0_part8_eq_skeleton]
  unfold k0_part8_skel
  iintro ⟨⟨%f, H⟩, Hk⟩
  simp only [Prog.lift, Prog.bind_op, Prog.bind_ret, Prog.pure_eq_ret]
  iapply (wp_load 𝒱₀ (c : Thread nD τ) none Set.univ (m := Memref.whole cc0_scratch2) (Finset.subset_univ _)) $$ H; iintro H
  iapply (wp_store 𝒱₀ (c : Thread nD τ) none Set.univ (m := Memref.whole cc0_scratch2) (r := Rect.unit (s := S8x48x512) ![0, 0, 0] S8x48x512.size inb_S8x48x512_S8x48x512_0_0_0) (Mk := Finset.univ) (Finset.subset_univ _)) $$ H; iintro H
  rw [wp_ret, write_frames]; imodintro
  iapply Hk; iexact H

end Local

end Cert.Moe

end
-- ==== Proof.BodyComm.lean ====
/-
The communicating part of the body: the barrier's wait, the seven transfers, the seven arrivals with each frame's share
added, the store of the result, the seven departures.
-/
module

public import proofs.«01_k».proof.Proof.BodyLocal

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Comm
variable (A : Dev nD → FVec F S8x48x512 .bf16) (K₀ : Dev nD × CellIx → ℕ) (c : Dev nD)

/-- That transfer `r` was sent: the credit its departure pays. -/
def sent (r : ℕ) : sProp 𝕄 := cred (tallyAt (sendCell c (nx r c)) () N)
/-- What the wait for the frame from `r + 1` places back takes. -/
def awaited (r : ℕ) : sProp 𝕄 := iprop(cred (tallyAt (recvCell c (pv r c)) () N) ∗ atPos ER (recvCell c (pv r c)) 0 ∅ 0)
/-- That frame, arrived. -/
def frameIn (r : ℕ) : sProp 𝕄 := rPts c (pv r c) (landed A c)
/-- Its cell after the wait. -/
def recvDone (r : ℕ) : sProp 𝕄 := atPos ER (recvCell c (pv r c)) 1 ∅ 0
/-- The slot that transfer `r` left, come back, and its cell after the wait. -/
def gone (r : ℕ) : sProp 𝕄 := iprop(sPts c (nx r c) (A c) ∗ atPos ER (sendCell c (nx r c)) 1 ∅ 0)
/-- The contents of the frame from `r + 1` places back. -/
abbrev got (r : ℕ) : Vec F S1x48x512 .bf16 := frameAt (landed A c) (pv r c)

/-- The barrier's wait and the first transfer. -/
theorem part9_step (v2 : BitVec 32) {K : _ → sProp 𝕄} :
    iprop((records A K₀ ∗ levAts L lv ∗ cred (tallyAt (barCell c) () 7) ∗ owesE c (oS c 7) ∗ atPos ER (barCell c) 0 ∅ 0 ∗ pend A c 0) ∗ ((owesE c (oS c 6) ∗ atPos ER (barCell c) 1 ∅ 0 ∗ freed c 1 ∗ freed c 2 ∗ freed c 3 ∗ freed c 4 ∗ freed c 5 ∗ freed c 6 ∗ sent c 0) -∗ K ⟨⟩))
      ⊢ wp frame (wpE (defs₀ (F := F)) 𝒱₀ (c : Thread nD τ) none) Set.univ (k0_part9 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 (SemArray.scalar (sig.barrier 0 rfl))) K := by
  rw [k0_part9_eq_skeleton]
  unfold k0_part9_skel
  iintro ⟨⟨#HR, #Hlev, Hc, HO, Hat, Hp0⟩, Hk⟩
  simp only [semWaitWord, Prog.lift, Prog.bind_op, Prog.bind_ret, Prog.pure_eq_ret]
  iapply (bar_wait A K₀ c) $$ [Hc HO Hat]
  · isplitr; · iexact HR
    isplitr; · iexact Hlev
    isplitl [Hc]; · iexact Hc
    isplitl [HO] <;> iassumption
  iintro ⟨HO, Hat, Hf0, Hf1, Hf2, Hf3, Hf4, Hf5, Hf6⟩
  iapply (send_step A K₀ c 0 6 (nx_ne c 0) rfl (dev9_eq c _) (off4_0 c) (k0_off3_eq c) (send_sem_of _ (off1_0 c) _) (recv_sem_of _ (k0_off2_eq c) _)) $$ [HO Hp0 Hf0]
  · isplitr; · iexact HR
    isplitl [HO]; · iexact HO
    isplitl [Hp0] <;> iassumption
  iintro ⟨HO, Hs0⟩
  rw [wp_ret]; imodintro
  iapply Hk
  unfold sent
  isplitl [HO]; · iexact HO
  isplitl [Hat]; · iexact Hat
  isplitl [Hf1]; · iexact Hf1
  isplitl [Hf2]; · iexact Hf2
  isplitl [Hf3]; · iexact Hf3
  isplitl [Hf4]; · iexact Hf4
  isplitl [Hf5]; · iexact Hf5
  isplitl [Hf6]; · iexact Hf6
  iexact Hs0

/-- Transfers 1 and 2. -/
theorem part10_step (v2 : BitVec 32) {K : _ → sProp 𝕄} :
    iprop((records A K₀ ∗ owesE c (oS c 6) ∗ pend A c 1 ∗ freed c 1 ∗ pend A c 2 ∗ freed c 2) ∗ (∀ x, (owesE c (oS c 4) ∗ sent c 1 ∗ sent c 2) -∗ K x))
      ⊢ wp frame (wpE (defs₀ (F := F)) 𝒱₀ (c : Thread nD τ) none) Set.univ (k0_part10 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2) K := by
  rw [k0_part10_eq_skeleton]
  unfold k0_part10_skel
  iintro ⟨⟨#HR, HO, Hp1, Hf1, Hp2, Hf2⟩, Hk⟩
  simp only [semWaitWord, Prog.lift, Prog.bind_op, Prog.bind_ret, Prog.pure_eq_ret]
  iapply (send_step A K₀ c 1 5 (nx_ne c 1) rfl (dev10_eq c _) (off4_1 c) (k0_off3_eq c) (send_sem_of _ (off1_1 c) _) (recv_sem_of _ (k0_off2_eq c) _)) $$ [HO Hp1 Hf1]
  · isplitr; · iexact HR
    isplitl [HO]; · iexact HO
    isplitl [Hp1] <;> iassumption
  iintro ⟨HO, Hs1⟩
  iapply (send_step A K₀ c 2 4 (nx_ne c 2) rfl (dev11_eq c _) (off4_2 c) (k0_off3_eq c) (send_sem_of _ (off1_2 c) _) (recv_sem_of _ (k0_off2_eq c) _)) $$ [HO Hp2 Hf2]
  · isplitr; · iexact HR
    isplitl [HO]; · iexact HO
    isplitl [Hp2] <;> iassumption
  iintro ⟨HO, Hs2⟩
  rw [wp_ret]; imodintro
  iapply Hk
  unfold sent
  isplitl [HO]; · iexact HO
  isplitl [Hs1]; · iexact Hs1
  iexact Hs2

/-- Transfers 3 and 4. -/
theorem part11_step (v2 a b : BitVec 32) (x y : BitVec 1) {K : _ → sProp 𝕄} :
    iprop((records A K₀ ∗ owesE c (oS c 4) ∗ pend A c 3 ∗ freed c 3 ∗ pend A c 4 ∗ freed c 4) ∗ (∀ x, (owesE c (oS c 2) ∗ sent c 3 ∗ sent c 4) -∗ K x))
      ⊢ wp frame (wpE (defs₀ (F := F)) 𝒱₀ (c : Thread nD τ) none) Set.univ (k0_part11 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 a b x y) K := by
  rw [k0_part11_eq_skeleton]
  unfold k0_part11_skel
  iintro ⟨⟨#HR, HO, Hp3, Hf3, Hp4, Hf4⟩, Hk⟩
  simp only [semWaitWord, Prog.lift, Prog.bind_op, Prog.bind_ret, Prog.pure_eq_ret]
  iapply (send_step A K₀ c 3 3 (nx_ne c 3) rfl (dev12_eq c _) (off4_3 c) (k0_off3_eq c) (send_sem_of _ (off1_3 c) _) (recv_sem_of _ (k0_off2_eq c) _)) $$ [HO Hp3 Hf3]
  · isplitr; · iexact HR
    isplitl [HO]; · iexact HO
    isplitl [Hp3] <;> iassumption
  iintro ⟨HO, Hs3⟩
  iapply (send_step A K₀ c 4 2 (nx_ne c 4) rfl (dev13_eq c _) (off4_4 c) (k0_off3_eq c) (send_sem_of _ (off1_4 c) _) (recv_sem_of _ (k0_off2_eq c) _)) $$ [HO Hp4 Hf4]
  · isplitr; · iexact HR
    isplitl [HO]; · iexact HO
    isplitl [Hp4] <;> iassumption
  iintro ⟨HO, Hs4⟩
  rw [wp_ret]; imodintro
  iapply Hk
  unfold sent
  isplitl [HO]; · iexact HO
  isplitl [Hs3]; · iexact Hs3
  iexact Hs4

/-- Transfer 5. -/
theorem part12_step (v2 a : BitVec 32) {K : _ → sProp 𝕄} :
    iprop((records A K₀ ∗ owesE c (oS c 2) ∗ pend A c 5 ∗ freed c 5) ∗ ((owesE c (oS c 1) ∗ sent c 5) -∗ K ⟨⟩))
      ⊢ wp frame (wpE (defs₀ (F := F)) 𝒱₀ (c : Thread nD τ) none) Set.univ (k0_part12 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 a) K := by
  rw [k0_part12_eq_skeleton]
  unfold k0_part12_skel
  iintro ⟨⟨#HR, HO, Hp5, Hf5⟩, Hk⟩
  simp only [semWaitWord, Prog.lift, Prog.bind_op, Prog.bind_ret, Prog.pure_eq_ret]
  iapply (send_step A K₀ c 5 1 (nx_ne c 5) rfl (dev14_eq c _) (off4_5 c) (k0_off3_eq c) (send_sem_of _ (off1_5 c) _) (recv_sem_of _ (k0_off2_eq c) _)) $$ [HO Hp5 Hf5]
  · isplitr; · iexact HR
    isplitl [HO]; · iexact HO
    isplitl [Hp5] <;> iassumption
  iintro ⟨HO, Hs5⟩
  rw [wp_ret]; imodintro
  iapply Hk
  unfold sent
  isplitl [HO]; · iexact HO
  iexact Hs5

set_option maxHeartbeats 400000 in
/-- The last transfer, the device's own share, the first arrival. -/
theorem part13_step (v2 : BitVec 32) (P : FVec F S128x512 .bf16) (P' : FVec F S128x128 .f32) (g : FVec F S1024x1 .f32) (sl : FVec F S1024x8 .f32) {K : _ → sProp 𝕄} :
    iprop((records A K₀ ∗ owesE c (oS c 1) ∗ pend A c 6 ∗ freed c 6 ∗ bpts c cc0_scratch1 g ∗ bpts c cc0_scratch0 sl ∗ awaited c 0) ∗ ((owesE c 0 ∗ sent c 6 ∗ bpts c cc0_scratch1 g ∗ bpts c cc0_scratch0 sl ∗ frameIn A c 0 ∗ recvDone c 0) -∗ K ⟨k0_pay35 P P' (gsRows c g), slotRows c sl, backW v2 1#32, iota .tc S128x8 32 [1] iota_S128x8_d1_w32⟩))
      ⊢ wp frame (wpE (defs₀ (F := F)) 𝒱₀ (c : Thread nD τ) none) Set.univ (k0_part13 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 P P') K := by
  rw [k0_part13_eq_skeleton]
  unfold k0_part13_skel
  iintro ⟨⟨#HR, HO, Hp6, Hf6, HB1, HB0, Ha0⟩, Hk⟩
  simp only [semWaitWord, Prog.lift, Prog.bind_op, Prog.bind_ret, Prog.pure_eq_ret]
  iapply (send_step A K₀ c 6 0 (nx_ne c 6) rfl (dev15_eq c _) (off4_6 c) (k0_off3_eq c) (send_sem_of _ (off1_6 c) _) (recv_sem_of _ (k0_off2_eq c) _)) $$ [HO Hp6 Hf6]
  · isplitr; · iexact HR
    isplitl [HO]; · iexact HO
    isplitl [Hp6] <;> iassumption
  iintro ⟨HO, Hs6⟩
  iapply (wp_load 𝒱₀ (c : Thread nD τ) none Set.univ (m := Memref.whole cc0_scratch1) (Finset.subset_univ _)) $$ HB1; iintro HB1
  iapply (wp_load 𝒱₀ (c : Thread nD τ) none Set.univ (m := Memref.whole cc0_scratch0) (Finset.subset_univ _)) $$ HB0; iintro HB0
  ihave HO := (Entails.of_eq (show (owesE c (oS c 0) : sProp 𝕄) = owesE c 0 from rfl)) $$ HO
  unfold awaited
  icases Ha0 with ⟨Hc0, Hat0⟩
  iapply (recv_wait A K₀ c (pv 0 c) (pv_ne c 0) (recv_sem_of _ (off7_0 c) _)) $$ [HO Hc0 Hat0]
  · isplitr; · iexact HR
    isplitl [HO]; · iexact HO
    isplitl [Hc0] <;> iassumption
  iintro ⟨HO, Hg0, Hd0⟩
  rw [wp_ret]; imodintro
  unfold gsRows slotRows backW sent frameIn recvDone
  iapply Hk
  isplitl [HO]; · iexact HO
  isplitl [Hs6]; · iexact Hs6
  isplitl [HB1]; · iexact HB1
  isplitl [HB0]; · iexact HB0
  isplitl [Hg0]; · iexact Hg0
  iexact Hd0

/-- The first frame's share; the second arrival. -/
theorem part14_step (v2 : BitVec 32) (P : FVec F S128x48 .f32) (acc : FVec F S128x512 .f32) (sl : Vec F S128x8 .f32) (w : BitVec 32) (i8 : IVec S128x8 32) {K : _ → sProp 𝕄} :
    iprop((records A K₀ ∗ owesE c 0 ∗ frameIn A c 0 ∗ awaited c 1) ∗ ((owesE c 0 ∗ frameIn A c 0 ∗ frameIn A c 1 ∗ recvDone c 1) -∗ K ⟨k0_pay36 P acc sl w i8 (got A c 0), backW v2 2#32, k0_pay37 v2⟩))
      ⊢ wp frame (wpE (defs₀ (F := F)) 𝒱₀ (c : Thread nD τ) none) Set.univ (k0_part14 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 P acc sl w i8) K := by
  rw [k0_part14_eq_skeleton]
  unfold k0_part14_skel
  iintro ⟨⟨#HR, HO, Hg0, Ha1⟩, Hk⟩
  simp only [semWaitWord, Prog.lift, Prog.bind_op, Prog.bind_ret, Prog.pure_eq_ret]
  unfold frameIn
  iapply (load_slot c (pv 0 c) (landed A c) (off9_0 c)) $$ Hg0; iintro Hg0
  unfold awaited
  icases Ha1 with ⟨Hc1, Hat1⟩
  iapply (recv_wait A K₀ c (pv 1 c) (pv_ne c 1) (recv_sem_of _ (off7_1 c) _)) $$ [HO Hc1 Hat1]
  · isplitr; · iexact HR
    isplitl [HO]; · iexact HO
    isplitl [Hc1] <;> iassumption
  iintro ⟨HO, Hg1, Hd1⟩
  rw [wp_ret]; imodintro
  unfold backW
  iapply Hk
  unfold recvDone
  isplitl [HO]; · iexact HO
  isplitl [Hg0]; · iexact Hg0
  isplitl [Hg1]; · iexact Hg1
  iexact Hd1

/-- The second frame's share; the third arrival. -/
theorem part15_step (v2 : BitVec 32) (P : FVec F S128x48 .f32) (sl : Vec F S128x8 .f32) (acc : FVec F S128x512 .f32) (w : BitVec 32) (p : FVec F S128x8 .f32) {K : _ → sProp 𝕄} :
    iprop((records A K₀ ∗ owesE c 0 ∗ frameIn A c 1 ∗ awaited c 2) ∗ ((owesE c 0 ∗ frameIn A c 1 ∗ frameIn A c 2 ∗ recvDone c 2) -∗ K ⟨k0_pay38 P sl acc p (got A c 1), backW v2 3#32, k0_pay39 v2 sl⟩))
      ⊢ wp frame (wpE (defs₀ (F := F)) 𝒱₀ (c : Thread nD τ) none) Set.univ (k0_part15 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 P sl acc w p) K := by
  rw [k0_part15_eq_skeleton]
  unfold k0_part15_skel
  iintro ⟨⟨#HR, HO, Hg1, Ha2⟩, Hk⟩
  simp only [semWaitWord, Prog.lift, Prog.bind_op, Prog.bind_ret, Prog.pure_eq_ret]
  unfold frameIn
  iapply (load_slot c (pv 1 c) (landed A c) (off9_1 c)) $$ Hg1; iintro Hg1
  unfold awaited
  icases Ha2 with ⟨Hc2, Hat2⟩
  iapply (recv_wait A K₀ c (pv 2 c) (pv_ne c 2) (recv_sem_of _ (off7_2 c) _)) $$ [HO Hc2 Hat2]
  · isplitr; · iexact HR
    isplitl [HO]; · iexact HO
    isplitl [Hc2] <;> iassumption
  iintro ⟨HO, Hg2, Hd2⟩
  rw [wp_ret]; imodintro
  unfold backW
  iapply Hk
  unfold recvDone
  isplitl [HO]; · iexact HO
  isplitl [Hg1]; · iexact Hg1
  isplitl [Hg2]; · iexact Hg2
  iexact Hd2

/-- The third frame's share; the fourth arrival. -/
theorem part16_step (v2 : BitVec 32) (P : FVec F S128x48 .f32) (sl : Vec F S128x8 .f32) (acc : FVec F S128x512 .f32) (w : BitVec 32) (p : FVec F S128x1 .f32) {K : _ → sProp 𝕄} :
    iprop((records A K₀ ∗ owesE c 0 ∗ frameIn A c 2 ∗ awaited c 3) ∗ ((owesE c 0 ∗ frameIn A c 2 ∗ frameIn A c 3 ∗ recvDone c 3) -∗ K ⟨k0_pay40 P acc p (got A c 2), backW v2 4#32, k0_pay41 v2 P sl⟩))
      ⊢ wp frame (wpE (defs₀ (F := F)) 𝒱₀ (c : Thread nD τ) none) Set.univ (k0_part16 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 P sl acc w p) K := by
  rw [k0_part16_eq_skeleton]
  unfold k0_part16_skel
  iintro ⟨⟨#HR, HO, Hg2, Ha3⟩, Hk⟩
  simp only [semWaitWord, Prog.lift, Prog.bind_op, Prog.bind_ret, Prog.pure_eq_ret]
  unfold frameIn
  iapply (load_slot c (pv 2 c) (landed A c) (off9_2 c)) $$ Hg2; iintro Hg2
  unfold awaited
  icases Ha3 with ⟨Hc3, Hat3⟩
  iapply (recv_wait A K₀ c (pv 3 c) (pv_ne c 3) (recv_sem_of _ (off7_3 c) _)) $$ [HO Hc3 Hat3]
  · isplitr; · iexact HR
    isplitl [HO]; · iexact HO
    isplitl [Hc3] <;> iassumption
  iintro ⟨HO, Hg3, Hd3⟩
  rw [wp_ret]; imodintro
  unfold backW
  iapply Hk
  unfold recvDone
  isplitl [HO]; · iexact HO
  isplitl [Hg2]; · iexact Hg2
  isplitl [Hg3]; · iexact Hg3
  iexact Hd3

/-- The fourth frame's share; the fifth arrival. -/
theorem part17_step (v2 : BitVec 32) (P : FVec F S128x48 .f32) (sl : Vec F S128x8 .f32) (acc : FVec F S128x512 .f32) (w : BitVec 32) (p : FVec F S128x48 .f32) {K : _ → sProp 𝕄} :
    iprop((records A K₀ ∗ owesE c 0 ∗ frameIn A c 3 ∗ awaited c 4) ∗ ((owesE c 0 ∗ frameIn A c 3 ∗ frameIn A c 4 ∗ recvDone c 4) -∗ K ⟨k0_pay42 (F := F) acc p (got A c 3), k0_pay43 v2 P sl⟩))
      ⊢ wp frame (wpE (defs₀ (F := F)) 𝒱₀ (c : Thread nD τ) none) Set.univ (k0_part17 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 P sl acc w p) K := by
  rw [k0_part17_eq_skeleton]
  unfold k0_part17_skel
  iintro ⟨⟨#HR, HO, Hg3, Ha4⟩, Hk⟩
  simp only [semWaitWord, Prog.lift, Prog.bind_op, Prog.bind_ret, Prog.pure_eq_ret]
  unfold frameIn
  iapply (load_slot c (pv 3 c) (landed A c) (off9_3 c)) $$ Hg3; iintro Hg3
  unfold awaited
  icases Ha4 with ⟨Hc4, Hat4⟩
  iapply (recv_wait A K₀ c (pv 4 c) (pv_ne c 4) (recv_sem_of _ (off7_4 c) _)) $$ [HO Hc4 Hat4]
  · isplitr; · iexact HR
    isplitl [HO]; · iexact HO
    isplitl [Hc4] <;> iassumption
  iintro ⟨HO, Hg4, Hd4⟩
  rw [wp_ret]; imodintro
  iapply Hk
  unfold recvDone
  isplitl [HO]; · iexact HO
  isplitl [Hg3]; · iexact Hg3
  isplitl [Hg4]; · iexact Hg4
  iexact Hd4

/-- The fifth and sixth frames' shares; the sixth arrival. -/
theorem part18_step (v2 : BitVec 32) (P : FVec F S128x48 .f32) (sl : Vec F S128x8 .f32) (acc : FVec F S128x512 .f32) (p : FVec F S128x48 .bf16) {K : _ → sProp 𝕄} :
    iprop((records A K₀ ∗ owesE c 0 ∗ frameIn A c 4 ∗ awaited c 5) ∗ ((owesE c 0 ∗ frameIn A c 4 ∗ frameIn A c 5 ∗ recvDone c 5) -∗ K ⟨k0_pay44 acc p (got A c 4), k0_pay45 v2 P sl (got A c 5)⟩))
      ⊢ wp frame (wpE (defs₀ (F := F)) 𝒱₀ (c : Thread nD τ) none) Set.univ (k0_part18 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 P sl acc p) K := by
  rw [k0_part18_eq_skeleton]
  unfold k0_part18_skel
  iintro ⟨⟨#HR, HO, Hg4, Ha5⟩, Hk⟩
  simp only [semWaitWord, Prog.lift, Prog.bind_op, Prog.bind_ret, Prog.pure_eq_ret]
  unfold frameIn
  iapply (load_slot c (pv 4 c) (landed A c) (off9_4 c)) $$ Hg4; iintro Hg4
  unfold awaited
  icases Ha5 with ⟨Hc5, Hat5⟩
  iapply (recv_wait A K₀ c (pv 5 c) (pv_ne c 5) (recv_sem_of _ (off7_5 c) _)) $$ [HO Hc5 Hat5]
  · isplitr; · iexact HR
    isplitl [HO]; · iexact HO
    isplitl [Hc5] <;> iassumption
  iintro ⟨HO, Hg5, Hd5⟩
  iapply (load_slot c (pv 5 c) (landed A c) (off9_5 c)) $$ Hg5; iintro Hg5
  rw [wp_ret]; imodintro
  iapply Hk
  unfold recvDone
  isplitl [HO]; · iexact HO
  isplitl [Hg4]; · iexact Hg4
  isplitl [Hg5]; · iexact Hg5
  iexact Hd5

/-- The seventh arrival and its share. -/
theorem part19_step (v2 : BitVec 32) (P : FVec F S128x48 .f32) (sl : Vec F S128x8 .f32) (acc p : FVec F S128x512 .f32) (o : FVec F S128x512 .f32) {K : _ → sProp 𝕄} :
    iprop((records A K₀ ∗ owesE c 0 ∗ awaited c 6 ∗ bpts c cc0_stg3_0 o) ∗ ((owesE c 0 ∗ frameIn A c 6 ∗ recvDone c 6 ∗ bpts c cc0_stg3_0 o) -∗ K (k0_pay46 v2 P sl acc p (got A c 6))))
      ⊢ wp frame (wpE (defs₀ (F := F)) 𝒱₀ (c : Thread nD τ) none) Set.univ (k0_part19 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 P sl acc p) K := by
  rw [k0_part19_eq_skeleton]
  unfold k0_part19_skel
  iintro ⟨⟨#HR, HO, Ha6, Hout⟩, Hk⟩
  simp only [semWaitWord, Prog.lift, Prog.bind_op, Prog.bind_ret, Prog.pure_eq_ret]
  unfold awaited
  icases Ha6 with ⟨Hc6, Hat6⟩
  iapply (recv_wait A K₀ c (pv 6 c) (pv_ne c 6) (recv_sem_of _ (off7_6 c) _)) $$ [HO Hc6 Hat6]
  · isplitr; · iexact HR
    isplitl [HO]; · iexact HO
    isplitl [Hc6] <;> iassumption
  iintro ⟨HO, Hg6, Hd6⟩
  iapply (load_slot c (pv 6 c) (landed A c) (off9_6 c)) $$ Hg6; iintro Hg6
  iapply (wp_load 𝒱₀ (c : Thread nD τ) none Set.univ (m := Memref.whole cc0_stg3_0) (Finset.subset_univ _)) $$ Hout; iintro Hout
  rw [wp_ret]; imodintro
  iapply Hk
  unfold frameIn recvDone
  isplitl [HO]; · iexact HO
  isplitl [Hg6]; · iexact Hg6
  isplitl [Hd6]; · iexact Hd6
  iexact Hout

/-- The store of the result; the first departure. -/
theorem part20_step (v2 : BitVec 32) (w o : FVec F S128x512 .f32) {K : _ → sProp 𝕄} :
    iprop((records A K₀ ∗ owesE c 0 ∗ bpts c cc0_stg3_0 o ∗ sent c 0 ∗ atPos ER (sendCell c (nx 0 c)) 0 ∅ 0) ∗ ((owesE c 0 ∗ bpts c cc0_stg3_0 w ∗ gone A c 0) -∗ K ⟨⟩))
      ⊢ wp frame (wpE (defs₀ (F := F)) 𝒱₀ (c : Thread nD τ) none) Set.univ (k0_part20 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 w) K := by
  rw [k0_part20_eq_skeleton]
  unfold k0_part20_skel
  iintro ⟨⟨#HR, HO, Hout, Hs0, Hb0⟩, Hk⟩
  simp only [semWaitWord, Prog.lift, Prog.bind_op, Prog.bind_ret, Prog.pure_eq_ret]
  iapply (wp_store 𝒱₀ (c : Thread nD τ) none Set.univ (m := Memref.whole cc0_stg3_0) (r := Rect.unit (s := S128x512) ![0, 0] S128x512.size inb_S128x512_S128x512_0_0) (Mk := Finset.univ) (Finset.subset_univ _)) $$ Hout; iintro Hout
  rw [write_out]
  unfold sent
  iapply (send_wait A K₀ c (nx 0 c) (nx_ne c 0) (send_sem_of _ (off1_0 c) _)) $$ [HO Hs0 Hb0]
  · isplitr; · iexact HR
    isplitl [HO]; · iexact HO
    isplitl [Hs0] <;> iassumption
  iintro ⟨HO, Hq0, Hb0⟩
  rw [wp_ret]; imodintro
  iapply Hk
  unfold gone
  isplitl [HO]; · iexact HO
  isplitl [Hout]; · iexact Hout
  isplitl [Hq0] <;> iassumption

/-- Two more departures. -/
theorem part21_step (v2 : BitVec 32) {K : _ → sProp 𝕄} :
    iprop((records A K₀ ∗ owesE c 0 ∗ sent c 1 ∗ atPos ER (sendCell c (nx 1 c)) 0 ∅ 0 ∗ sent c 2 ∗ atPos ER (sendCell c (nx 2 c)) 0 ∅ 0) ∗ ((owesE c 0 ∗ gone A c 1 ∗ gone A c 2) -∗ K ⟨⟩))
      ⊢ wp frame (wpE (defs₀ (F := F)) 𝒱₀ (c : Thread nD τ) none) Set.univ (k0_part21 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2) K := by
  rw [k0_part21_eq_skeleton]
  unfold k0_part21_skel
  iintro ⟨⟨#HR, HO, Hs1, Hb1, Hs2, Hb2⟩, Hk⟩
  simp only [semWaitWord, Prog.lift, Prog.bind_op, Prog.bind_ret, Prog.pure_eq_ret]
  unfold sent
  iapply (send_wait A K₀ c (nx 1 c) (nx_ne c 1) (send_sem_of _ (off1_1 c) _)) $$ [HO Hs1 Hb1]
  · isplitr; · iexact HR
    isplitl [HO]; · iexact HO
    isplitl [Hs1] <;> iassumption
  iintro ⟨HO, Hq1, Hb1⟩
  iapply (send_wait A K₀ c (nx 2 c) (nx_ne c 2) (send_sem_of _ (off1_2 c) _)) $$ [HO Hs2 Hb2]
  · isplitr; · iexact HR
    isplitl [HO]; · iexact HO
    isplitl [Hs2] <;> iassumption
  iintro ⟨HO, Hq2, Hb2⟩
  rw [wp_ret]; imodintro
  iapply Hk
  unfold gone
  isplitl [HO]; · iexact HO
  isplitl [Hq1 Hb1]; · isplitl [Hq1] <;> iassumption
  isplitl [Hq2] <;> iassumption

/-- Two more departures. -/
theorem part22_step (v2 : BitVec 32) {K : _ → sProp 𝕄} :
    iprop((records A K₀ ∗ owesE c 0 ∗ sent c 3 ∗ atPos ER (sendCell c (nx 3 c)) 0 ∅ 0 ∗ sent c 4 ∗ atPos ER (sendCell c (nx 4 c)) 0 ∅ 0) ∗ ((owesE c 0 ∗ gone A c 3 ∗ gone A c 4) -∗ K ⟨⟩))
      ⊢ wp frame (wpE (defs₀ (F := F)) 𝒱₀ (c : Thread nD τ) none) Set.univ (k0_part22 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2) K := by
  rw [k0_part22_eq_skeleton]
  unfold k0_part22_skel
  iintro ⟨⟨#HR, HO, Hs3, Hb3, Hs4, Hb4⟩, Hk⟩
  simp only [semWaitWord, Prog.lift, Prog.bind_op, Prog.bind_ret, Prog.pure_eq_ret]
  unfold sent
  iapply (send_wait A K₀ c (nx 3 c) (nx_ne c 3) (send_sem_of _ (off1_3 c) _)) $$ [HO Hs3 Hb3]
  · isplitr; · iexact HR
    isplitl [HO]; · iexact HO
    isplitl [Hs3] <;> iassumption
  iintro ⟨HO, Hq3, Hb3⟩
  iapply (send_wait A K₀ c (nx 4 c) (nx_ne c 4) (send_sem_of _ (off1_4 c) _)) $$ [HO Hs4 Hb4]
  · isplitr; · iexact HR
    isplitl [HO]; · iexact HO
    isplitl [Hs4] <;> iassumption
  iintro ⟨HO, Hq4, Hb4⟩
  rw [wp_ret]; imodintro
  iapply Hk
  unfold gone
  isplitl [HO]; · iexact HO
  isplitl [Hq3 Hb3]; · isplitl [Hq3] <;> iassumption
  isplitl [Hq4] <;> iassumption

end Comm

end Cert.Moe

end
-- ==== Proof.BodyNamed.lean ====
/-
The body's parts with their values named: what each part returns in terms of the routing and of the block's accumulation.
-/
module

public import proofs.«01_k».proof.Proof.BodyComm

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Named

theorem pure_step (c : Dev nD) {α : Type} {Q : α → sProp 𝕄} (v : α) :
    Q v ⊢ wp frame (wpE (defs₀ (F := F)) 𝒱₀ (c : Thread nD τ) none) Set.univ (pure v : Prog (TpuEff nD τ sig (Elt F) Λ₀ .tc) α) Q := by
  rw [Prog.pure_eq_ret, wp_ret]
  iintro H; imodintro; iexact H

variable (A : Dev nD → FVec F S8x48x512 .bf16) (K₀ : Dev nD × CellIx → ℕ) (c : Dev nD)
variable (E : Vec F S1024x1 .i32) (X : Vec F S1024x256 .bf16) (W : Vec F S4x256x512 .bf16)

/-- The eight signals, the experts' numbers. -/
theorem route1 {K : _ → sProp 𝕄} :
    iprop((records A K₀ ∗ owesE c (oB c 8) ∗ bigSep Finset.univ (fun i : Dev nD => dutyTok ER (barCell i) 0 c) ∗ bigSep Finset.univ (slotPay (F := F) c) ∗ bpts c cc0_stg1_0 E) ∗ ((owesE c (oB c 0) ∗ bpts c cc0_stg1_0 E) -∗ K ⟨c, posW c, SemArray.scalar (sig.barrier 0 rfl), expertOf E, expertIds⟩))
      ⊢ wp frame (wpE (defs₀ (F := F)) 𝒱₀ (c : Thread nD τ) none) Set.univ (k0_part1 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5) K := part1_step A K₀ c E

/-- The selections. -/
theorem route2 {K : _ → sProp 𝕄} :
    K ⟨isExpert E, oneHot E, tri, tri8, perBlock E, zero832⟩
      ⊢ wp frame (wpE (defs₀ (F := F)) 𝒱₀ (c : Thread nD τ) none) Set.univ (k0_part2 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 (expertOf E) expertIds) K := by
  rw [k0_part2_eq_skeleton]; exact pure_step c _

/-- The counts block by block. -/
theorem route3 {K : _ → sProp 𝕄} :
    K ⟨before8 E, (k0_pay8 (isExpert E) (oneHot E) tri tri8 (perBlock E) zero832), (k0_pay9 (isExpert E) (oneHot E) tri tri8 (perBlock E) zero832), (k0_pay10 (isExpert E) (oneHot E) tri tri8 (perBlock E) zero832), (k0_pay11 (isExpert E) (oneHot E) tri tri8 (perBlock E) zero832), (k0_pay12 (oneHot E) tri tri8 (perBlock E) zero832), (k0_pay13 (isExpert E))⟩
      ⊢ wp frame (wpE (defs₀ (F := F)) 𝒱₀ (c : Thread nD τ) none) Set.univ (k0_part3 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 (isExpert E) (oneHot E) tri tri8 (perBlock E) zero832) K := by
  rw [k0_part3_eq_skeleton]; exact pure_step c _

/-- The places and the capacity. -/
theorem route4 {K : _ → sProp 𝕄} :
    K ⟨rankOf E, keptOf E, 4#32, k0_pay16 (expertOf E), k0_pay17 (expertOf E), k0_pay18 (expertOf E)⟩
      ⊢ wp frame (wpE (defs₀ (F := F)) 𝒱₀ (c : Thread nD τ) none) Set.univ (k0_part4 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 (expertOf E) (isExpert E) (oneHot E) tri (before8 E) (k0_pay8 (isExpert E) (oneHot E) tri tri8 (perBlock E) zero832) (k0_pay9 (isExpert E) (oneHot E) tri tri8 (perBlock E) zero832) (k0_pay10 (isExpert E) (oneHot E) tri tri8 (perBlock E) zero832) (k0_pay11 (isExpert E) (oneHot E) tri tri8 (perBlock E) zero832) (k0_pay12 (oneHot E) tri tri8 (perBlock E) zero832) (k0_pay13 (isExpert E))) K := by
  rw [k0_part4_eq_skeleton]; exact pure_step c _

/-- The owners and the rows. -/
theorem route5 {K : _ → sProp 𝕄} :
    iprop((∃ f, bpts c cc0_scratch0 f) ∗ ((∃ f, bpts c cc0_scratch0 f) -∗ K ⟨ownerOf E, devIds, slotOf E⟩))
      ⊢ wp frame (wpE (defs₀ (F := F)) 𝒱₀ (c : Thread nD τ) none) Set.univ (k0_part5 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 (expertOf E) tri (keptOf E) 4#32 (k0_pay16 (expertOf E)) (k0_pay17 (expertOf E)) (k0_pay18 (expertOf E))) K := part5_step c _ _ _ _ _ _ _

/-- The two tables stored; the tokens gathered. -/
theorem route6 {K : _ → sProp 𝕄} :
    iprop(((∃ f, bpts c cc0_scratch0 f) ∗ (∃ f, bpts c cc0_scratch1 f) ∗ bpts c cc0_stg0_0 X) ∗ ((bpts c cc0_scratch0 (slotTable E) ∗ bpts c cc0_scratch1 (gsTable E c) ∗ bpts c cc0_stg0_0 X) -∗ K ⟨mySlot E c, pick E c, gathered E c X, iota .tc S128x1024 32 [1] iota_S128x1024_d1_w32, 256#32, k0_pay27, k0_pay28, Scalar.cmpi .sgt 256#32 0#32⟩))
      ⊢ wp frame (wpE (defs₀ (F := F)) 𝒱₀ (c : Thread nD τ) none) Set.univ (k0_part6 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 (posW c) (expertOf E) (rankOf E) (keptOf E) (ownerOf E) devIds (slotOf E)) K := part6_step c X _ _ _ _ _ _ _

/-- The experts' matrices. -/
theorem route7 {K : _ → sProp 𝕄} :
    iprop((bpts c cc0_stg2_0 W) ∗ ((bpts c cc0_stg2_0 W) -∗ K ⟨spread E c X, k0_pay30 W⟩))
      ⊢ wp frame (wpE (defs₀ (F := F)) 𝒱₀ (c : Thread nD τ) none) Set.univ (k0_part7 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 (gathered E c X) (iota .tc S128x1024 32 [1] iota_S128x1024_d1_w32) 256#32 k0_pay27 k0_pay28 (Scalar.cmpi .sgt 256#32 0#32)) K := part7_step c W _ _ _ _ _ _

/-- The products and the frames. -/
theorem route8 {K : _ → sProp 𝕄} :
    iprop((∃ f, bpts c cc0_scratch2 f) ∗ ((bpts c cc0_scratch2 (frames E c X W)) -∗ K ⟨products E c X W, k0_pay32, k0_pay33⟩))
      ⊢ wp frame (wpE (defs₀ (F := F)) 𝒱₀ (c : Thread nD τ) none) Set.univ (k0_part8 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 (mySlot E c) (pick E c) (spread E c X) (k0_pay30 W)) K := part8_step c _ _ _ _

variable (v2 : BitVec 32) (P : FVec F S128x512 .bf16) (g : FVec F S1024x1 .f32) (sl : FVec F S1024x8 .f32)

/-- The block after the shares of the first `n` frames. -/
def accAfter (A : Dev nD → FVec F S8x48x512 .bf16) (c : Dev nD) (v2 : BitVec 32) (P : FVec F S128x512 .bf16) (g : FVec F S1024x1 .f32) (sl : FVec F S1024x8 .f32) : ℕ → FVec F S128x512 .f32
  | 0 => acc0 P (gsRows c g)
  | n + 1 => accStep (backW v2 (BitVec.ofNat 32 (n + 1))) (slotRows c sl) (got A c n) (accAfter A c v2 P g sl n)

/-- The accumulation. -/
theorem route13 {K : _ → sProp 𝕄} :
    iprop((records A K₀ ∗ owesE c (oS c 1) ∗ pend A c 6 ∗ freed c 6 ∗ bpts c cc0_scratch1 g ∗ bpts c cc0_scratch0 sl ∗ awaited c 0) ∗ ((owesE c 0 ∗ sent c 6 ∗ bpts c cc0_scratch1 g ∗ bpts c cc0_scratch0 sl ∗ frameIn A c 0 ∗ recvDone c 0) -∗ K ⟨accAfter A c v2 P g sl 0, slotRows c sl, backW v2 1#32, iota .tc S128x8 32 [1] iota_S128x8_d1_w32⟩))
      ⊢ wp frame (wpE (defs₀ (F := F)) 𝒱₀ (c : Thread nD τ) none) Set.univ (k0_part13 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 P k0_pay33) K := part13_step A K₀ c v2 P k0_pay33 g sl

/-- The accumulation. -/
theorem route14 {K : _ → sProp 𝕄} :
    iprop((records A K₀ ∗ owesE c 0 ∗ frameIn A c 0 ∗ awaited c 1) ∗ ((owesE c 0 ∗ frameIn A c 0 ∗ frameIn A c 1 ∗ recvDone c 1) -∗ K ⟨accAfter A c v2 P g sl 1, backW v2 2#32, k0_pay37 v2⟩))
      ⊢ wp frame (wpE (defs₀ (F := F)) 𝒱₀ (c : Thread nD τ) none) Set.univ (k0_part14 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 k0_pay32 (accAfter A c v2 P g sl 0) (slotRows c sl) (backW v2 1#32) (iota .tc S128x8 32 [1] iota_S128x8_d1_w32)) K := part14_step A K₀ c v2 _ _ _ _ _

/-- The accumulation. -/
theorem route15 {K : _ → sProp 𝕄} :
    iprop((records A K₀ ∗ owesE c 0 ∗ frameIn A c 1 ∗ awaited c 2) ∗ ((owesE c 0 ∗ frameIn A c 1 ∗ frameIn A c 2 ∗ recvDone c 2) -∗ K ⟨accAfter A c v2 P g sl 2, backW v2 3#32, k0_pay39 v2 (slotRows c sl)⟩))
      ⊢ wp frame (wpE (defs₀ (F := F)) 𝒱₀ (c : Thread nD τ) none) Set.univ (k0_part15 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 k0_pay32 (slotRows c sl) (accAfter A c v2 P g sl 1) (backW v2 2#32) (k0_pay37 v2)) K := part15_step A K₀ c v2 _ _ _ _ _

/-- The accumulation. -/
theorem route16 {K : _ → sProp 𝕄} :
    iprop((records A K₀ ∗ owesE c 0 ∗ frameIn A c 2 ∗ awaited c 3) ∗ ((owesE c 0 ∗ frameIn A c 2 ∗ frameIn A c 3 ∗ recvDone c 3) -∗ K ⟨accAfter A c v2 P g sl 3, backW v2 4#32, k0_pay41 v2 k0_pay32 (slotRows c sl)⟩))
      ⊢ wp frame (wpE (defs₀ (F := F)) 𝒱₀ (c : Thread nD τ) none) Set.univ (k0_part16 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 k0_pay32 (slotRows c sl) (accAfter A c v2 P g sl 2) (backW v2 3#32) (k0_pay39 v2 (slotRows c sl))) K := part16_step A K₀ c v2 _ _ _ _ _

/-- The accumulation. -/
theorem route17 {K : _ → sProp 𝕄} :
    iprop((records A K₀ ∗ owesE c 0 ∗ frameIn A c 3 ∗ awaited c 4) ∗ ((owesE c 0 ∗ frameIn A c 3 ∗ frameIn A c 4 ∗ recvDone c 4) -∗ K ⟨accAfter A c v2 P g sl 4, k0_pay43 v2 k0_pay32 (slotRows c sl)⟩))
      ⊢ wp frame (wpE (defs₀ (F := F)) 𝒱₀ (c : Thread nD τ) none) Set.univ (k0_part17 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 k0_pay32 (slotRows c sl) (accAfter A c v2 P g sl 3) (backW v2 4#32) (k0_pay41 v2 k0_pay32 (slotRows c sl))) K := part17_step A K₀ c v2 _ _ _ _ _

/-- The accumulation. -/
theorem route18 {K : _ → sProp 𝕄} :
    iprop((records A K₀ ∗ owesE c 0 ∗ frameIn A c 4 ∗ awaited c 5) ∗ ((owesE c 0 ∗ frameIn A c 4 ∗ frameIn A c 5 ∗ recvDone c 5) -∗ K ⟨accAfter A c v2 P g sl 5, k0_pay45 v2 k0_pay32 (slotRows c sl) (got A c 5)⟩))
      ⊢ wp frame (wpE (defs₀ (F := F)) 𝒱₀ (c : Thread nD τ) none) Set.univ (k0_part18 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 k0_pay32 (slotRows c sl) (accAfter A c v2 P g sl 4) (k0_pay43 v2 k0_pay32 (slotRows c sl))) K := part18_step A K₀ c v2 _ _ _ _

/-- The accumulation. -/
theorem route19 (o : FVec F S128x512 .f32) {K : _ → sProp 𝕄} :
    iprop((records A K₀ ∗ owesE c 0 ∗ awaited c 6 ∗ bpts c cc0_stg3_0 o) ∗ ((owesE c 0 ∗ frameIn A c 6 ∗ recvDone c 6 ∗ bpts c cc0_stg3_0 o) -∗ K (accAfter A c v2 P g sl 7)))
      ⊢ wp frame (wpE (defs₀ (F := F)) 𝒱₀ (c : Thread nD τ) none) Set.univ (k0_part19 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5 c v2 k0_pay32 (slotRows c sl) (accAfter A c v2 P g sl 5) (k0_pay45 v2 k0_pay32 (slotRows c sl) (got A c 5))) K := part19_step A K₀ c v2 _ _ _ _ o

end Named

end Cert.Moe

end
-- ==== Proof.BodyChains.lean ====
/-
The body of the kernel on one device, from the launch's tokens to the block of the result.
-/
module

public import proofs.«01_k».proof.Proof.BodyNamed

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (A : Dev nD → FVec F S8x48x512 .bf16) (K₀ : Dev nD × CellIx → ℕ) (c : Dev nD)
variable (E : Vec F S1024x1 .i32) (X : Vec F S1024x256 .bf16) (W : Vec F S4x256x512 .bf16)

/-- The body's result on device `c`. -/
def outBlock : FVec F S128x512 .f32 := accAfter A c (posW c) (products E c X W) (gsTable E c) (slotTable E) 7

/-! ## The cells closed at the end -/

theorem close_bar : iprop(records A K₀ ∗ atPos ER (barCell c) 1 ∅ 0) ⊢ |={Set.univ}=> (semVal (barCell c) 0 : sProp 𝕄) := by
  iintro ⟨#HR, H⟩
  ihave HI := (rec_bar A K₀ c) $$ HR
  icases HI with ⟨#HI, -⟩
  imod (Rounds.cell_close ER (rd A) (Set.mem_univ (K₀ (c, none))) (fun h => h) (R := 1) (duties_later A (barCell c))) $$ [H] with Hz
  · isplitr; · iexact HI
    iexact H
  imodintro; iexact Hz
theorem close_send (k : Dev nD) : iprop(records A K₀ ∗ atPos ER (sendCell c k) 1 ∅ 0) ⊢ |={Set.univ}=> (semVal (sendCell c k) 0 : sProp 𝕄) := by
  iintro ⟨#HR, H⟩
  ihave HI := (rec_send A K₀ c k) $$ HR
  icases HI with ⟨#HI, -⟩
  imod (Rounds.cell_close ER (rd A) (Set.mem_univ (K₀ (c, some (ixS k)))) (fun h => h) (R := 1) (duties_later A (sendCell c k))) $$ [H] with Hz
  · isplitr; · iexact HI
    iexact H
  imodintro; iexact Hz
theorem close_recv (k : Dev nD) : iprop(records A K₀ ∗ atPos ER (recvCell c k) 1 ∅ 0) ⊢ |={Set.univ}=> (semVal (recvCell c k) 0 : sProp 𝕄) := by
  iintro ⟨#HR, H⟩
  ihave HI := (rec_recv A K₀ c k) $$ HR
  icases HI with ⟨#HI, -⟩
  imod (Rounds.cell_close ER (rd A) (Set.mem_univ (K₀ (c, some (ixR k)))) (fun h => h) (R := 1) (duties_later A (recvCell c k))) $$ [H] with Hz
  · isplitr; · iexact HI
    iexact H
  imodintro; iexact Hz
theorem close_send_self : iprop(records A K₀ ∗ atPos ER (sendCell c c) 0 ∅ 0) ⊢ |={Set.univ}=> (semVal (sendCell c c) 0 : sProp 𝕄) := by
  iintro ⟨#HR, H⟩
  ihave HI := (rec_send A K₀ c c) $$ HR
  icases HI with ⟨#HI, -⟩
  imod (Rounds.cell_close ER (rd A) (Set.mem_univ (K₀ (c, some (ixS c)))) (fun h => h) (R := 0) (duties_send_self A c)) $$ [H] with Hz
  · isplitr; · iexact HI
    iexact H
  imodintro; iexact Hz
theorem close_recv_self : iprop(records A K₀ ∗ atPos ER (recvCell c c) 0 ∅ 0) ⊢ |={Set.univ}=> (semVal (recvCell c c) 0 : sProp 𝕄) := by
  iintro ⟨#HR, H⟩
  ihave HI := (rec_recv A K₀ c c) $$ HR
  icases HI with ⟨#HI, -⟩
  imod (Rounds.cell_close ER (rd A) (Set.mem_univ (K₀ (c, some (ixR c)))) (fun h => h) (R := 0) (duties_recv_self A c)) $$ [H] with Hz
  · isplitr; · iexact HI
    iexact H
  imodintro; iexact Hz

/-! ## The chains -/

/-- What the body starts from besides its buffers: its positions, the tokens of the duties it pays, its credits. -/
def tokensIn : sProp 𝕄 :=
  iprop(atPos ER (barCell c) 0 ∅ 0 ∗ bigSep Finset.univ (fun k : Dev nD => atPos ER (sendCell c k) 0 ∅ 0) ∗ bigSep Finset.univ (fun k : Dev nD => atPos ER (recvCell c k) 0 ∅ 0)
    ∗ bigSep Finset.univ (fun i : Dev nD => dutyTok ER (barCell i) 0 c) ∗ bigSep Finset.univ (fun k : Dev nD => dutyTok ER (recvCell k c) 0 0) ∗ bigSep Finset.univ (fun k : Dev nD => dutyTok ER (sendCell c k) 0 0))
/-- The credit of the frame from `k`. -/
def creditAt (k : Dev nD) : sProp 𝕄 := if k = c then iprop(emp) else cred (tallyAt (recvCell c k) () N)
/-- Its credits. -/
def creditsIn : sProp 𝕄 :=
  iprop(cred (tallyAt (barCell c) () 7) ∗ bigSep Finset.univ (creditAt (F := F) c))
/-- The counters it leaves at zero. -/
def countersOut : sProp 𝕄 :=
  iprop(semVal (barCell c) 0 ∗ bigSep Finset.univ (fun k : Dev nD => semVal (sendCell c k) 0) ∗ bigSep Finset.univ (fun k : Dev nD => semVal (recvCell c k) 0))

/-- The credits by distance, and each arrival's wait. -/
theorem awaits : iprop(bigSep Finset.univ (creditAt (F := F) c) ∗ bigSep Finset.univ (fun k : Dev nD => atPos ER (recvCell c k) 0 ∅ 0))
    ⊢ (iprop(atPos ER (recvCell c c) 0 ∅ 0 ∗ awaited (F := F) c 0 ∗ awaited (F := F) c 1 ∗ awaited (F := F) c 2 ∗ awaited (F := F) c 3 ∗ awaited (F := F) c 4 ∗ awaited (F := F) c 5 ∗ awaited (F := F) c 6) : sProp 𝕄) := by
  rw [bigSep_pv c (creditAt (F := F) c), bigSep_pv c (fun k : Dev nD => (atPos ER (recvCell c k) 0 ∅ 0 : sProp 𝕄))]
  unfold awaited creditAt
  rw [if_neg (show pv 0 c ≠ c from pv_ne c 0), if_neg (show pv 1 c ≠ c from pv_ne c 1), if_neg (show pv 2 c ≠ c from pv_ne c 2), if_neg (show pv 3 c ≠ c from pv_ne c 3), if_neg (show pv 4 c ≠ c from pv_ne c 4), if_neg (show pv 5 c ≠ c from pv_ne c 5), if_neg (show pv 6 c ≠ c from pv_ne c 6)]
  iintro ⟨⟨-, H0, H1, H2, H3, H4, H5, H6⟩, Hz, G0, G1, G2, G3, G4, G5, G6⟩
  isplitl [Hz]; · iexact Hz
  isplitl [H0 G0]; · isplitl [H0] <;> iassumption
  isplitl [H1 G1]; · isplitl [H1] <;> iassumption
  isplitl [H2 G2]; · isplitl [H2] <;> iassumption
  isplitl [H3 G3]; · isplitl [H3] <;> iassumption
  isplitl [H4 G4]; · isplitl [H4] <;> iassumption
  isplitl [H5 G5]; · isplitl [H5] <;> iassumption
  isplitl [H6] <;> iassumption

/-- The frames by distance, each with the tokens that its transfer pays. -/
theorem pends : iprop(bigSep Finset.univ (fun k : Dev nD => sPts c k (A c)) ∗ bigSep Finset.univ (fun k : Dev nD => dutyTok ER (sendCell c k) 0 0) ∗ bigSep Finset.univ (fun k : Dev nD => dutyTok ER (recvCell k c) 0 0))
    ⊢ (iprop(sPts c c (A c) ∗ pend A c 0 ∗ pend A c 1 ∗ pend A c 2 ∗ pend A c 3 ∗ pend A c 4 ∗ pend A c 5 ∗ pend A c 6) : sProp 𝕄) := by
  rw [bigSep_nx c (fun k : Dev nD => sPts c k (A c)), bigSep_nx c (fun k : Dev nD => (dutyTok ER (sendCell c k) 0 0 : sProp 𝕄)), bigSep_nx c (fun k : Dev nD => (dutyTok ER (recvCell k c) 0 0 : sProp 𝕄))]
  unfold pend
  iintro ⟨⟨Hz, H0, H1, H2, H3, H4, H5, H6⟩, ⟨-, G0, G1, G2, G3, G4, G5, G6⟩, -, J0, J1, J2, J3, J4, J5, J6⟩
  isplitl [Hz]; · iexact Hz
  isplitl [H0 G0 J0]
  · isplitl [H0]; · iexact H0
    isplitl [G0] <;> iassumption
  isplitl [H1 G1 J1]
  · isplitl [H1]; · iexact H1
    isplitl [G1] <;> iassumption
  isplitl [H2 G2 J2]
  · isplitl [H2]; · iexact H2
    isplitl [G2] <;> iassumption
  isplitl [H3 G3 J3]
  · isplitl [H3]; · iexact H3
    isplitl [G3] <;> iassumption
  isplitl [H4 G4 J4]
  · isplitl [H4]; · iexact H4
    isplitl [G4] <;> iassumption
  isplitl [H5 G5 J5]
  · isplitl [H5]; · iexact H5
    isplitl [G5] <;> iassumption
  isplitl [H6]; · iexact H6
  isplitl [G6] <;> iassumption

/-- The slots come back, and the send cells closed. -/
theorem slots_back : iprop(records A K₀ ∗ sPts c c (A c) ∗ atPos ER (sendCell c c) 0 ∅ 0 ∗ gone A c 0 ∗ gone A c 1 ∗ gone A c 2 ∗ gone A c 3 ∗ gone A c 4 ∗ gone A c 5 ∗ gone A c 6)
    ⊢ |={Set.univ}=> (iprop(bigSep Finset.univ (fun k : Dev nD => sPts c k (A c)) ∗ bigSep Finset.univ (fun k : Dev nD => semVal (sendCell c k) 0)) : sProp 𝕄) := by
  rw [bigSep_nx c (fun k : Dev nD => sPts c k (A c)), bigSep_nx c (fun k : Dev nD => (semVal (sendCell c k) 0 : sProp 𝕄))]
  unfold gone
  iintro ⟨#HR, Hz, Gz, ⟨H0, G0⟩, ⟨H1, G1⟩, ⟨H2, G2⟩, ⟨H3, G3⟩, ⟨H4, G4⟩, ⟨H5, G5⟩, ⟨H6, G6⟩⟩
  imod (close_send_self A K₀ c) $$ [Gz] with Gz
  · isplitr; · iexact HR
    iexact Gz
  imod (close_send A K₀ c (nx 0 c)) $$ [G0] with G0
  · isplitr; · iexact HR
    iexact G0
  imod (close_send A K₀ c (nx 1 c)) $$ [G1] with G1
  · isplitr; · iexact HR
    iexact G1
  imod (close_send A K₀ c (nx 2 c)) $$ [G2] with G2
  · isplitr; · iexact HR
    iexact G2
  imod (close_send A K₀ c (nx 3 c)) $$ [G3] with G3
  · isplitr; · iexact HR
    iexact G3
  imod (close_send A K₀ c (nx 4 c)) $$ [G4] with G4
  · isplitr; · iexact HR
    iexact G4
  imod (close_send A K₀ c (nx 5 c)) $$ [G5] with G5
  · isplitr; · iexact HR
    iexact G5
  imod (close_send A K₀ c (nx 6 c)) $$ [G6] with G6
  · isplitr; · iexact HR
    iexact G6
  imodintro
  isplitl [Hz H0 H1 H2 H3 H4 H5 H6]
  · isplitl [Hz]; · iexact Hz
    isplitl [H0]; · iexact H0
    isplitl [H1]; · iexact H1
    isplitl [H2]; · iexact H2
    isplitl [H3]; · iexact H3
    isplitl [H4]; · iexact H4
    isplitl [H5]; · iexact H5
    iexact H6
  · isplitl [Gz]; · iexact Gz
    isplitl [G0]; · iexact G0
    isplitl [G1]; · iexact G1
    isplitl [G2]; · iexact G2
    isplitl [G3]; · iexact G3
    isplitl [G4]; · iexact G4
    isplitl [G5]; · iexact G5
    iexact G6

/-- The landing slots together, and the receive cells closed. -/
theorem frames_back (f : FVec F S8x48x512 .bf16) : iprop(records A K₀ ∗ rPts c c f ∗ atPos ER (recvCell c c) 0 ∅ 0 ∗ frameIn A c 0 ∗ frameIn A c 1 ∗ frameIn A c 2 ∗ frameIn A c 3 ∗ frameIn A c 4 ∗ frameIn A c 5 ∗ frameIn A c 6 ∗ recvDone (F := F) c 0 ∗ recvDone (F := F) c 1 ∗ recvDone (F := F) c 2 ∗ recvDone (F := F) c 3 ∗ recvDone (F := F) c 4 ∗ recvDone (F := F) c 5 ∗ recvDone (F := F) c 6)
    ⊢ |={Set.univ}=> (iprop((∃ f, bpts c cc0_scratch3 f) ∗ bigSep Finset.univ (fun k : Dev nD => semVal (recvCell c k) 0)) : sProp 𝕄) := by
  rw [bigSep_pv c (fun k : Dev nD => (semVal (recvCell c k) 0 : sProp 𝕄))]
  unfold frameIn recvDone
  iintro ⟨#HR, Hz, Gz, H0, H1, H2, H3, H4, H5, H6, G0, G1, G2, G3, G4, G5, G6⟩
  imod (close_recv_self A K₀ c) $$ [Gz] with Gz
  · isplitr; · iexact HR
    iexact Gz
  imod (close_recv A K₀ c (pv 0 c)) $$ [G0] with G0
  · isplitr; · iexact HR
    iexact G0
  imod (close_recv A K₀ c (pv 1 c)) $$ [G1] with G1
  · isplitr; · iexact HR
    iexact G1
  imod (close_recv A K₀ c (pv 2 c)) $$ [G2] with G2
  · isplitr; · iexact HR
    iexact G2
  imod (close_recv A K₀ c (pv 3 c)) $$ [G3] with G3
  · isplitr; · iexact HR
    iexact G3
  imod (close_recv A K₀ c (pv 4 c)) $$ [G4] with G4
  · isplitr; · iexact HR
    iexact G4
  imod (close_recv A K₀ c (pv 5 c)) $$ [G5] with G5
  · isplitr; · iexact HR
    iexact G5
  imod (close_recv A K₀ c (pv 6 c)) $$ [G6] with G6
  · isplitr; · iexact HR
    iexact G6
  imodintro
  isplitl [Hz H0 H1 H2 H3 H4 H5 H6]
  · iapply (rPts_join c (fun k => if k = c then f else landed A c))
    rw [bigSep_pv c (fun k : Dev nD => rPts c k (if k = c then f else landed A c)), if_pos rfl, if_neg (show pv 0 c ≠ c from pv_ne c 0), if_neg (show pv 1 c ≠ c from pv_ne c 1), if_neg (show pv 2 c ≠ c from pv_ne c 2), if_neg (show pv 3 c ≠ c from pv_ne c 3), if_neg (show pv 4 c ≠ c from pv_ne c 4), if_neg (show pv 5 c ≠ c from pv_ne c 5), if_neg (show pv 6 c ≠ c from pv_ne c 6)]
    isplitl [Hz]; · iexact Hz
    isplitl [H0]; · iexact H0
    isplitl [H1]; · iexact H1
    isplitl [H2]; · iexact H2
    isplitl [H3]; · iexact H3
    isplitl [H4]; · iexact H4
    isplitl [H5]; · iexact H5
    iexact H6
  · isplitl [Gz]; · iexact Gz
    isplitl [G0]; · iexact G0
    isplitl [G1]; · iexact G1
    isplitl [G2]; · iexact G2
    isplitl [G3]; · iexact G3
    isplitl [G4]; · iexact G4
    isplitl [G5]; · iexact G5
    iexact G6

end Body

end Cert.Moe

end
-- ==== Proof.Body.lean ====
/-
The body of the kernel on one device, composed: its parts in order.
-/
module

public import proofs.«01_k».proof.Proof.BodyChains

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (A : Dev nD → FVec F S8x48x512 .bf16) (K₀ : Dev nD × CellIx → ℕ) (c : Dev nD)
variable (E : Vec F S1024x1 .i32) (X : Vec F S1024x256 .bf16) (W : Vec F S4x256x512 .bf16)

set_option maxHeartbeats 2000000 in
/-- The body on device `c`, from its tokens, credits and buffers, when `A c` is the frames it computes: it leaves its
    result, the buffers, and its counters at zero. -/
theorem body_run (hA : A c = frames E c X W) {Kt : PUnit → sProp 𝕄} :
    iprop((records A K₀ ∗ levAts L lv ∗ tokensIn (F := F) c ∗ creditsIn (F := F) c ∗ owesE c (oB c 8)
        ∗ (∃ f, bpts c cc0_scratch0 f) ∗ (∃ f, bpts c cc0_scratch1 f) ∗ (∃ f, bpts c cc0_scratch2 f) ∗ (∃ f, bpts c cc0_scratch3 f)
        ∗ bpts c cc0_stg0_0 X ∗ bpts c cc0_stg1_0 E ∗ bpts c cc0_stg2_0 W ∗ (∃ f, bpts c cc0_stg3_0 f))
      ∗ ((owesE c 0 ∗ countersOut (F := F) c
        ∗ (∃ f, bpts c cc0_scratch0 f) ∗ (∃ f, bpts c cc0_scratch1 f) ∗ (∃ f, bpts c cc0_scratch2 f) ∗ (∃ f, bpts c cc0_scratch3 f)
        ∗ bpts c cc0_stg0_0 X ∗ bpts c cc0_stg1_0 E ∗ bpts c cc0_stg2_0 W ∗ bpts c cc0_stg3_0 (outBlock A c E X W)) -∗ Kt ⟨⟩))
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5) Kt := by
  rw [cc0_body_eq_skeleton]
  unfold cc0_body_skel tokensIn creditsIn
  iintro ⟨⟨#HR, #Hlev, ⟨HaB, HaS, HaV, HtB, HtV, HtS⟩, ⟨HcB, HcV⟩, HO, HB0, HB1, HB2, ⟨%f3, HB3⟩, HX, HE, HW, ⟨%o, Hout⟩⟩, Hk⟩
  ihave HB3 := (Entails.of_eq (rPts_split c f3)) $$ HB3
  ihave HB3 := (slots_give c f3) $$ HB3
  icases HB3 with ⟨⟨%fs, Hself⟩, Hslots⟩
  rw [wp_bind]; iapply (route1 A K₀ c E)
  isplitl [HO HtB Hslots HE]
  · isplitr; · iexact HR
    isplitl [HO]; · iexact HO
    isplitl [HtB]; · iexact HtB
    isplitl [Hslots]; · iexact Hslots
    iexact HE
  iintro ⟨HO, HE⟩
  dsimp only
  ihave HO := (Entails.of_eq (show (owesE c (oB c 0) : sProp 𝕄) = owesE c (oS c 7) from rfl)) $$ HO
  rw [wp_bind]; iapply (route2 c E)
  dsimp only
  rw [wp_bind]; iapply (route3 c E)
  dsimp only
  rw [wp_bind]; iapply (route4 c E)
  dsimp only
  rw [wp_bind]; iapply (route5 c E)
  isplitl [HB0]
  · iexact HB0
  iintro HB0
  dsimp only
  rw [wp_bind]; iapply (route6 c E X)
  isplitl [HB0 HB1 HX]
  · isplitl [HB0]; · iexact HB0
    isplitl [HB1]; · iexact HB1
    iexact HX
  iintro ⟨HB0, HB1, HX⟩
  dsimp only
  rw [wp_bind]; iapply (route7 c E X W)
  isplitl [HW]
  · iexact HW
  iintro HW
  dsimp only
  rw [wp_bind]; iapply (route8 c E X W)
  isplitl [HB2]
  · iexact HB2
  iintro HB2
  dsimp only
  rw [← hA]
  ihave HB2 := (Entails.of_eq (sPts_split c (A c))) $$ HB2
  ihave HB2 := (pends A c) $$ [HB2 HtS HtV]
  · isplitl [HB2]; · iexact HB2
    isplitl [HtS] <;> iassumption
  icases HB2 with ⟨Hz, Hp0, Hp1, Hp2, Hp3, Hp4, Hp5, Hp6⟩
  ihave HcV := (awaits c) $$ [HcV HaV]
  · isplitl [HcV] <;> iassumption
  icases HcV with ⟨HzV, Ha0, Ha1, Ha2, Ha3, Ha4, Ha5, Ha6⟩
  ihave HaS := (Entails.of_eq (bigSep_nx c (fun k : Dev nD => (atPos ER (sendCell c k) 0 ∅ 0 : sProp 𝕄)))) $$ HaS
  icases HaS with ⟨HzS, Hb0, Hb1, Hb2, Hb3, Hb4, Hb5, Hb6⟩
  rw [wp_bind]; iapply (part9_step A K₀ c _)
  isplitl [HcB HO HaB Hp0]
  · isplitr; · iexact HR
    isplitr; · iexact Hlev
    isplitl [HcB]; · iexact HcB
    isplitl [HO]; · iexact HO
    isplitl [HaB]; · iexact HaB
    iexact Hp0
  iintro ⟨HO, HaB, Hf1, Hf2, Hf3, Hf4, Hf5, Hf6, Hs0⟩
  beta_reduce
  rw [wp_bind]; iapply (part10_step A K₀ c _)
  isplitl [HO Hp1 Hf1 Hp2 Hf2]
  · isplitr; · iexact HR
    isplitl [HO]; · iexact HO
    isplitl [Hp1]; · iexact Hp1
    isplitl [Hf1]; · iexact Hf1
    isplitl [Hp2]; · iexact Hp2
    iexact Hf2
  iintro %x10 ⟨HO, Hs1, Hs2⟩
  beta_reduce
  rw [wp_bind]; iapply (part11_step A K₀ c _ _ _ _ _)
  isplitl [HO Hp3 Hf3 Hp4 Hf4]
  · isplitr; · iexact HR
    isplitl [HO]; · iexact HO
    isplitl [Hp3]; · iexact Hp3
    isplitl [Hf3]; · iexact Hf3
    isplitl [Hp4]; · iexact Hp4
    iexact Hf4
  iintro %x11 ⟨HO, Hs3, Hs4⟩
  beta_reduce
  rw [wp_bind]; iapply (part12_step A K₀ c _ _)
  isplitl [HO Hp5 Hf5]
  · isplitr; · iexact HR
    isplitl [HO]; · iexact HO
    isplitl [Hp5]; · iexact Hp5
    iexact Hf5
  iintro ⟨HO, Hs5⟩
  beta_reduce
  rw [wp_bind]; iapply (route13 A K₀ c (posW c) (products E c X W) (gsTable E c) (slotTable E))
  isplitl [HO Hp6 Hf6 HB1 HB0 Ha0]
  · isplitr; · iexact HR
    isplitl [HO]; · iexact HO
    isplitl [Hp6]; · iexact Hp6
    isplitl [Hf6]; · iexact Hf6
    isplitl [HB1]; · iexact HB1
    isplitl [HB0]; · iexact HB0
    iexact Ha0
  iintro ⟨HO, Hs6, HB1, HB0, Hg0, Hd0⟩
  dsimp only
  rw [wp_bind]; iapply (route14 A K₀ c (posW c) (products E c X W) (gsTable E c) (slotTable E))
  isplitl [HO Hg0 Ha1]
  · isplitr; · iexact HR
    isplitl [HO]; · iexact HO
    isplitl [Hg0]; · iexact Hg0
    iexact Ha1
  iintro ⟨HO, Hg0, Hg1, Hd1⟩
  dsimp only
  rw [wp_bind]; iapply (route15 A K₀ c (posW c) (products E c X W) (gsTable E c) (slotTable E))
  isplitl [HO Hg1 Ha2]
  · isplitr; · iexact HR
    isplitl [HO]; · iexact HO
    isplitl [Hg1]; · iexact Hg1
    iexact Ha2
  iintro ⟨HO, Hg1, Hg2, Hd2⟩
  dsimp only
  rw [wp_bind]; iapply (route16 A K₀ c (posW c) (products E c X W) (gsTable E c) (slotTable E))
  isplitl [HO Hg2 Ha3]
  · isplitr; · iexact HR
    isplitl [HO]; · iexact HO
    isplitl [Hg2]; · iexact Hg2
    iexact Ha3
  iintro ⟨HO, Hg2, Hg3, Hd3⟩
  dsimp only
  rw [wp_bind]; iapply (route17 A K₀ c (posW c) (products E c X W) (gsTable E c) (slotTable E))
  isplitl [HO Hg3 Ha4]
  · isplitr; · iexact HR
    isplitl [HO]; · iexact HO
    isplitl [Hg3]; · iexact Hg3
    iexact Ha4
  iintro ⟨HO, Hg3, Hg4, Hd4⟩
  dsimp only
  rw [wp_bind]; iapply (route18 A K₀ c (posW c) (products E c X W) (gsTable E c) (slotTable E))
  isplitl [HO Hg4 Ha5]
  · isplitr; · iexact HR
    isplitl [HO]; · iexact HO
    isplitl [Hg4]; · iexact Hg4
    iexact Ha5
  iintro ⟨HO, Hg4, Hg5, Hd5⟩
  dsimp only
  rw [wp_bind]; iapply (route19 A K₀ c (posW c) (products E c X W) (gsTable E c) (slotTable E) o)
  isplitl [HO Ha6 Hout]
  · isplitr; · iexact HR
    isplitl [HO]; · iexact HO
    isplitl [Ha6]; · iexact Ha6
    iexact Hout
  iintro ⟨HO, Hg6, Hd6, Hout⟩
  beta_reduce
  rw [wp_bind]; iapply (part20_step A K₀ c _ _ o)
  isplitl [HO Hout Hs0 Hb0]
  · isplitr; · iexact HR
    isplitl [HO]; · iexact HO
    isplitl [Hout]; · iexact Hout
    isplitl [Hs0]; · iexact Hs0
    iexact Hb0
  iintro ⟨HO, Hout, Hq0⟩
  beta_reduce
  rw [wp_bind]; iapply (part21_step A K₀ c _)
  isplitl [HO Hs1 Hb1 Hs2 Hb2]
  · isplitr; · iexact HR
    isplitl [HO]; · iexact HO
    isplitl [Hs1]; · iexact Hs1
    isplitl [Hb1]; · iexact Hb1
    isplitl [Hs2]; · iexact Hs2
    iexact Hb2
  iintro ⟨HO, Hq1, Hq2⟩
  beta_reduce
  rw [wp_bind]; iapply (part22_step A K₀ c _)
  isplitl [HO Hs3 Hb3 Hs4 Hb4]
  · isplitr; · iexact HR
    isplitl [HO]; · iexact HO
    isplitl [Hs3]; · iexact Hs3
    isplitl [Hb3]; · iexact Hb3
    isplitl [Hs4]; · iexact Hs4
    iexact Hb4
  iintro ⟨HO, Hq3, Hq4⟩
  beta_reduce
  simp only [Prog.lift, Prog.bind_op, Prog.bind_ret, Prog.pure_eq_ret]
  unfold sent
  iapply (send_wait A K₀ c (nx 5 c) (nx_ne c 5) (send_sem_of _ (off1_5 c) _)) $$ [HO Hs5 Hb5]
  · isplitr; · iexact HR
    isplitl [HO]; · iexact HO
    isplitl [Hs5] <;> iassumption
  iintro ⟨HO, Hq5, Hb5⟩
  iapply (send_wait A K₀ c (nx 6 c) (nx_ne c 6) (send_sem_of _ (off1_6 c) _)) $$ [HO Hs6 Hb6]
  · isplitr; · iexact HR
    isplitl [HO]; · iexact HO
    isplitl [Hs6] <;> iassumption
  iintro ⟨HO, Hq6, Hb6⟩
  imod (slots_back A K₀ c) $$ [Hz HzS Hq0 Hq1 Hq2 Hq3 Hq4 Hq5 Hq6 Hb5 Hb6] with ⟨HB2, HcS⟩
  · unfold gone
    isplitr; · iexact HR
    isplitl [Hz]; · iexact Hz
    isplitl [HzS]; · iexact HzS
    isplitl [Hq0]; · iexact Hq0
    isplitl [Hq1]; · iexact Hq1
    isplitl [Hq2]; · iexact Hq2
    isplitl [Hq3]; · iexact Hq3
    isplitl [Hq4]; · iexact Hq4
    isplitl [Hq5 Hb5]; · isplitl [Hq5] <;> iassumption
    isplitl [Hq6] <;> iassumption
  imod (frames_back A K₀ c fs) $$ [Hself HzV Hg0 Hd0 Hg1 Hd1 Hg2 Hd2 Hg3 Hd3 Hg4 Hd4 Hg5 Hd5 Hg6 Hd6] with ⟨HB3, HcV⟩
  · isplitr; · iexact HR
    isplitl [Hself]; · iexact Hself
    isplitl [HzV]; · iexact HzV
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    iexact Hd6
  imod (close_bar A K₀ c) $$ [HaB] with HcB
  · isplitr; · iexact HR
    iexact HaB
  rw [wp_ret]; imodintro
  iapply Hk
  unfold countersOut outBlock
  isplitl [HO]; · iexact HO
  isplitl [HcB HcS HcV]
  · isplitl [HcB]; · iexact HcB
    isplitl [HcS] <;> iassumption
  isplitl [HB0]; · iexists _; iexact HB0
  isplitl [HB1]; · iexists _; iexact HB1
  isplitl [HB2]
  · iexists (A c)
    iapply (Entails.of_eq (sPts_split c (A c)).symm); iexact HB2
  isplitl [HB3]; · iexact HB3
  isplitl [HX]; · iexact HX
  isplitl [HE]; · iexact HE
  isplitl [HW]; · iexact HW
  iexact Hout

end Body

end Cert.Moe

end
-- ==== Proof.Obligation.lean ====
/-
What one device's run of the pallas_call starts from and ends with, and that the body leads from the one to the other.
-/
module

public import proofs.«01_k».proof.Proof.Body
public import proofs.«01_k».proof.Proof.Gen.KernelIdeal.Frame

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The tokens as device `c` finds them staged. -/
def xIn (c : Dev nD) : FVec F S1024x256 .bf16 := iblk m c 0 t0_0
/-- The experts' numbers as device `c` finds them staged. -/
def idxIn (c : Dev nD) : IVec S1024x1 32 := iblk m c 1 t0_0
/-- Device `c`'s four experts as it finds them staged. -/
def wIn (c : Dev nD) : FVec F S4x256x512 .bf16 := iblk m c 2 t0_0

/-- The frames that device `c` sends. -/
def sentBy (c : Dev nD) : FVec F S8x48x512 .bf16 := frames (idxIn m c) c (xIn m c) (wIn m c)
/-- The block of the result that device `c` computes. -/
def resultOf (c : Dev nD) : FVec F S128x512 .f32 := outBlock (sentBy m) c (idxIn m c) (xIn m c) (wIn m c)

/-- The four scratch buffers at any contents. -/
def scratch (c : Dev nD) : sProp 𝕄 :=
  iprop((∃ f, bpts c cc0_scratch0 f) ∗ (∃ f, bpts c cc0_scratch1 f) ∗ (∃ f, bpts c cc0_scratch2 f) ∗ (∃ f, bpts c cc0_scratch3 f))

/-- What device `c` is dealt: all cells' records under some names, its tokens, its credits, the levels. -/
def start (c : Dev nD) : sProp 𝕄 := iprop((∃ K₀, records (sentBy m) K₀ ∗ tokensIn (F := F) c) ∗ creditsIn (F := F) c ∗ levAts L lv)
def Φ₀ (c : Dev nD) : sProp 𝕄 := iprop(start m c ∗ scratch (F := F) c)
def Φ₁ (c : Dev nD) : sProp 𝕄 := iprop(countersOut (F := F) c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => idxIn m c
    | ⟨2, _⟩ => wIn m c
    | ⟨3, _⟩ => resultOf m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ bpts c b f) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ bpts c b f)

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
def bodyPost (c : Dev nD) : sProp 𝕄 :=
  iprop(Φ₁ (F := F) c ∗ (dats m ρ 0 c).owesAt () t0_0.succ ∗ stg c cc0_stg0_0 (xIn m c) ∗ stg c cc0_stg1_0 (idxIn m c) ∗ stg c cc0_stg2_0 (wIn m c)
    ∗ stg c cc0_stg3_0 (resultOf m c))

theorem fetch_in (t : Fin cfg0.N) : (cfg0.win (0 : Fin 4)).fetch t = true ∧ (cfg0.win (1 : Fin 4)).fetch t = true ∧ (cfg0.win (2 : Fin 4)).fetch t = true := by
  rw [fin_N0 t]; exact ⟨rfl, rfl, rfl⟩

set_option maxHeartbeats 800000 in
theorem sound_body (c : Dev nD) :
    bodyPre m ρ c ⊢ wp frame (wpE (defs₀ (F := F)) 𝒱₀ (c : Thread nD τ) none) Set.univ (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 cc0_scratch5) (fun _ => bodyPost m ρ c) := by
  unfold bodyPre Φ₀ start scratch
  iintro ⟨⟨⟨⟨%K₀, #HR, Ht⟩, Hc, #Hlev⟩, H0, H1, H2, H3⟩, Ho, ⟨%d0, %g0, %hg0, HX⟩, ⟨%d1, %g1, %hg1, HE⟩, ⟨%d2, %g2, %hg2, HW⟩, ⟨%d3, %g3, -, Hout⟩⟩
  have hx : g0 = xIn m c := by rw [hg0]; unfold Dat.before; rw [if_pos (fetch_in t0_0).1]; rfl
  have he : g1 = idxIn m c := by rw [hg1]; unfold Dat.before; rw [if_pos (fetch_in t0_0).2.1]; rfl
  have hw : g2 = wIn m c := by rw [hg2]; unfold Dat.before; rw [if_pos (fetch_in t0_0).2.2]; rfl
  subst hx he hw
  unfold Dat.owesAt Pipeline.owesWithin
  icases Ho with ⟨%W₀, -, HO⟩
  rw [show (dats m ρ 0 c).owed t0_0.castSucc = oB c 8 from rfl]
  iapply (body_run (sentBy m) K₀ c (idxIn m c) (xIn m c) (wIn m c) rfl)
  isplitr []
  · isplitr; · iexact HR
    isplitr; · iexact Hlev
    isplitl [Ht]; · iexact Ht
    isplitl [Hc]; · iexact Hc
    isplitl [HO]; · unfold owesE; iexists W₀; iexact HO
    isplitl [H0]; · iexact H0
    isplitl [H1]; · iexact H1
    isplitl [H2]; · iexact H2
    isplitl [H3]; · iexact H3
    isplitl [HX]; · iexact HX
    isplitl [HE]; · iexact HE
    isplitl [HW]; · iexact HW
    iexists g3; iexact Hout
  unfold owesE
  iintro ⟨⟨%W₁, HO⟩, Hz, H0, H1, H2, H3, HX, HE, HW, Hout⟩
  unfold bodyPost Φ₁ scratch Dat.owesAt Pipeline.owesWithin
  rw [show (dats m ρ 0 c).owed t0_0.succ = 0 from rfl]
  isplitl [Hz H0 H1 H2 H3]
  · isplitl [Hz]; · iexact Hz
    isplitl [H0]; · iexact H0
    isplitl [H1]; · iexact H1
    isplitl [H2] <;> iassumption
  isplitl [HO]
  · iexists W₁
    isplitr; · ipureintro; exact fun _ _ => Or.inl trivial
    iexact HO
  isplitl [HX]
  · iexists _; isplitr; · (ipureintro; rfl)
    iexact HX
  isplitl [HE]
  · iexists _; isplitr; · (ipureintro; rfl)
    iexact HE
  isplitl [HW]
  · iexists _; isplitr; · (ipureintro; rfl)
    iexact HW
  iexists _; isplitr; · (ipureintro; rfl)
  iexact Hout

set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.Moe

end
-- ==== Proof.LaunchRun.lean ====
/-
The launch: the cells' rounds and duty tokens minted, dealt over the devices, and the run of the whole program.
-/
module

public import proofs.«01_k».proof.Proof.Obligation
public import Idealize.ShloMosaic.Lib.Quiescent
public import Idealize.ShloMosaic.Lib.Pipeline.CollectiveSegs

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The cells and the tokens -/

theorem csem_injective : Function.Injective csem := by decide
theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All the cells. -/
def allCells : Finset (GSem nD τ sig) := Finset.univ.map ⟨kcell, kcell_injective⟩

/-- A device's own duty tokens: its barrier's from each device, its departures', its arrivals'. -/
abbrev TokIx : Type := Fin 8 ⊕ (Fin 8 ⊕ Fin 8)
def tokAt : TokIx → SemLoc sig × Fin 8
  | .inl d => (.reg barS, d)
  | .inr (.inl k) => (.dma (sendSem k), 0)
  | .inr (.inr k) => (.dma (recvSem k), 0)
theorem tokAt_injective : Function.Injective tokAt := by decide
def tokOf (ct : Dev nD × TokIx) : GSem nD τ sig × ℕ × Fin 8 := (((ct.1 : Thread nD τ), (tokAt ct.2).1), 0, (tokAt ct.2).2)
theorem tokOf_injective : Function.Injective tokOf := by
  rintro ⟨c, j⟩ ⟨c', j'⟩ h
  have h1 : c = c' := congrArg (fun x : GSem nD τ sig × ℕ × Fin 8 => x.1.1.1) h
  have h2 : j = j' := tokAt_injective (Prod.ext (congrArg (fun x : GSem nD τ sig × ℕ × Fin 8 => x.1.2) h) (congrArg (fun x : GSem nD τ sig × ℕ × Fin 8 => x.2.2) h))
  rw [h1, h2]
/-- All the tokens. -/
def allToks : Finset (GSem nD τ sig × ℕ × Fin 8) := Finset.univ.map ⟨tokOf, tokOf_injective⟩

def u₀ : UU := (initOf (Pipeline.cells cfgs cellOf_inj) (Pipeline.launchToks cfgs cellOf_inj), initOf allCells allToks)

theorem ix_split : (Finset.univ : Finset (Fin 16)) = Finset.univ.map ⟨ixS, by decide⟩ ∪ Finset.univ.map ⟨ixR, by decide⟩ := by decide
theorem bigSep_own {M : Type} [URA M] (Φ : Fin 16 → sProp M) :
    bigSep Finset.univ Φ = iprop(bigSep Finset.univ (fun k : Fin 8 => Φ (ixS k)) ∗ bigSep Finset.univ (fun k : Fin 8 => Φ (ixR k))) := by
  rw [ix_split, bigSep_union (by decide), bigSep_map, bigSep_map]; rfl
theorem bigSep_cellIx {M : Type} [URA M] (Φ : CellIx → sProp M) :
    bigSep Finset.univ Φ = iprop(Φ none ∗ bigSep Finset.univ (fun k : Fin 8 => Φ (some (ixS k))) ∗ bigSep Finset.univ (fun k : Fin 8 => Φ (some (ixR k)))) := by
  rw [show (Finset.univ : Finset CellIx) = insert none (Finset.univ.map ⟨some, Option.some_injective _⟩) by decide, bigSep_insert (by decide), bigSep_map]
  exact congrArg (fun R => iprop(Φ none ∗ R)) (bigSep_own fun i => Φ (some i))

/-- The tokens of device `c`'s own cells. -/
def toks (c : Dev nD) : sProp 𝕄 :=
  iprop(bigSep Finset.univ (fun d : Fin 8 => dutyTok ER (barCell c) 0 d) ∗ bigSep Finset.univ (fun k : Fin 8 => dutyTok ER (sendCell c k) 0 0)
    ∗ bigSep Finset.univ (fun k : Fin 8 => dutyTok ER (recvCell c k) 0 0))

/-- What the launch's element deals device `c`. -/
def G (c : Dev nD) : sProp 𝕄 :=
  iprop((bigSep Finset.univ fun k : CellIx => roundState ER (rd (sentBy m)) (kcell (c, k)) 0)
    ∗ (bigSep Finset.univ fun k : CellIx => iprop(atPos ER (kcell (c, k)) 0 ∅ 0 ∗ reached ER (kcell (c, k)) 0)) ∗ toks (F := F) c)
/-- What the step over all devices makes of it. -/
def G' (c : Dev nD) : sProp 𝕄 := iprop(∃ K₀, records (sentBy m) K₀ ∗ tokensIn (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum, bigSep_univ_sum]; rfl
  iintro HX
  imod (Rounds.fund ER (rd (sentBy m)) allCells allToks) $$ HX with ⟨Hst, Hr, Hat, Htok⟩
  imodintro
  ihave Hst' := (Entails.of_eq (hX fun g => roundState ER (rd (sentBy m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem recv_fun (Φ : GSem nD τ sig → sProp 𝕄) (c : Dev nD) :
    (bigSep Finset.univ fun k : Fin 8 => Φ ((c : Thread nD τ), osem (ixR k))) = bigSep Finset.univ fun k : Fin 8 => Φ (recvCell c k) :=
  bigSep_congr fun k _ => by rw [osem_R]

/-- The sixteen own semaphores are the eight that count departures and the eight that count arrivals, -/
theorem ownSems0_eq (c : Dev nD) : (Pipeline.ownSems0 (Ix := Unit) (Name := ℕ) (U := UU) (Lvl := ℕ) (Val := Elt F) (τ := τ) osem c : sProp 𝕄)
    = iprop(bigSep Finset.univ (fun k : Fin 8 => semVal (sendCell c k) 0) ∗ bigSep Finset.univ (fun k : Fin 8 => semVal (recvCell c k) 0)) := by
  unfold Pipeline.ownSems0
  rw [bigSep_own, recv_fun (fun g => semVal g 0) c]; rfl
/-- and the barrier's is the one that no launch scopes. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem counters_eq (c : Dev nD) : countersOut (F := F) c = iprop(unscopedSems0 c ∗ Pipeline.ownSems0 (Ix := Unit) (Name := ℕ) (U := UU) (Lvl := ℕ) (Val := Elt F) (τ := τ) osem c) := by
  rw [ownSems0_eq, unscopedSems0_eq]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [bigSep_cellIx, show (bigSep Finset.univ fun k : Fin 8 => (semVal (kcell (c, some (ixR k))) 0 : sProp 𝕄)) = _ from recv_fun (fun g => semVal g 0) c, ownSems0_eq, unscopedSems0_eq]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd (sentBy m)) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (rd (sentBy m)) (kcell (c, k)) 0)
      ⊢ (|={Set.univ}=> bigSep Finset.univ fun k => iprop(∃ κ : ℕ, cellInv ER (rd (sentBy m)) κ (kcell (c, k))) : sProp 𝕄) from by
        rw [← bigSep_sep']
        exact (bigSep_mono fun k _ => (Rounds.body_intro ER (rd (sentBy m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's positions as the launch deals them. -/
def places (c : Dev nD) : sProp 𝕄 := bigSep Finset.univ fun k : CellIx => atPos ER (kcell (c, k)) 0 ∅ 0
/-- The tokens of the duties that device `c` pays. -/
def payToks (c : Dev nD) : sProp 𝕄 :=
  iprop(bigSep Finset.univ (fun i : Dev nD => dutyTok ER (barCell i) 0 c) ∗ bigSep Finset.univ (fun k : Dev nD => dutyTok ER (recvCell k c) 0 0) ∗ bigSep Finset.univ (fun k : Dev nD => dutyTok ER (sendCell c k) 0 0))

theorem tokens_intro (c : Dev nD) : iprop(places (F := F) c ∗ payToks (F := F) c) ⊢ tokensIn (F := F) c := by
  unfold places payToks tokensIn
  rw [bigSep_cellIx, show (bigSep Finset.univ fun k : Fin 8 => (atPos ER (kcell (c, some (ixR k))) 0 ∅ 0 : sProp 𝕄)) = _ from recv_fun (fun g => atPos ER g 0 ∅ 0) c]
  iintro ⟨⟨H1, H2, H3⟩, H4, H5, H6⟩
  isplitl [H1]; · iexact H1
  isplitl [H2]; · iexact H2
  isplitl [H3]; · iexact H3
  isplitl [H4]; · iexact H4
  isplitl [H5] <;> iassumption

/-- The tokens change hands: a barrier's to the device that signals, an arrival's to the device that sends. -/
theorem toks_around : (bigSep Finset.univ fun c : Dev nD => (toks (F := F) c : sProp 𝕄)) ⊢ bigSep Finset.univ fun c : Dev nD => payToks (F := F) c := by
  unfold toks payToks
  rw [bigSep_sep', bigSep_sep', bigSep_sep', bigSep_sep',
    bigSep_univ_comm (fun (c : Dev nD) (d : Fin 8) => (dutyTok ER (barCell c) 0 d : sProp 𝕄)),
    bigSep_univ_comm (fun (c : Dev nD) (k : Fin 8) => (dutyTok ER (recvCell c k) 0 0 : sProp 𝕄))]
  iintro ⟨H1, H2, H3⟩
  isplitl [H1]; · iexact H1
  isplitl [H3]; · iexact H3
  iexact H2

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd (sentBy m)) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CellIx => iprop(∃ κ : ℕ, cellInv ER (rd (sentBy m)) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (rd (sentBy m)) κ (kcell ck) : sProp 𝕄))) $$ HI
  icases HK with ⟨%K, #HI⟩
  ihave Htk := (toks_around (F := F)) $$ Htok
  iapply (with_persistent (R := records (sentBy m) K) (Φ := fun c => iprop(places (F := F) c ∗ payToks (F := F) c)) fun c _ => by
    unfold G'
    iintro ⟨#HR, H⟩
    iexists K
    isplitr; · iexact HR
    iapply (tokens_intro c); iexact H)
  isplitr
  · unfold records; rw [bigSep_sep']
    isplitl; · iexact HI
    iexact HR
  · rw [bigSep_sep']
    isplitl [Hat]; · unfold places; iexact Hat
    iexact Htk

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credits -/

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c k : Dev nD) (h : k ≠ c) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, ← Finset.mul_sum,
    show (∑ d : Dev nD, if d = k ∧ k ≠ c then 1 else 0) = 1 by revert c k; decide, Nat.mul_one]

theorem recv_cells (c : Dev nD) (Φ : SemLoc sig → sProp 𝕄) :
    bigSep (Finset.univ.erase (SemLoc.reg barS)) Φ ⊢ bigSep Finset.univ (fun k : Fin 8 => Φ (.dma (recvSem k))) := by
  rw [show (bigSep Finset.univ (fun k : Fin 8 => Φ (.dma (recvSem k)))) = bigSep (Finset.univ.map ⟨fun k : Fin 8 => (SemLoc.dma (recvSem k) : SemLoc sig), by decide⟩) Φ by rw [bigSep_map]; rfl]
  exact bigSep_subset (by decide)

theorem creds (c : Dev nD) : (Pipeline.launchCred O₀ c : sProp 𝕄) ⊢ creditsIn (F := F) c := by
  unfold Pipeline.launchCred creditsIn
  rw [bigSep_univ_at _ (SemLoc.reg barS), launch_bar]
  refine sep_mono_right ?_
  refine (recv_cells c _).trans (bigSep_mono fun k _ => ?_)
  unfold creditAt
  by_cases h : k = c
  · rw [if_pos h]
    show _ ⊢ (iprop(emp) : sProp 𝕄)
    iintro -
    iempintro
  · rw [if_neg h, launch_recv c k h]
    exact Idealize.SL.BI.Entails.refl _

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ bpts c main_arg1 (m ((c : Thread nD τ).loc main_arg1))) := by
  rw [Pipeline.unscopedRestP_none, unscopedRest0_eq]
  iintro ⟨Hr, Hlev, Hcr, -, HG⟩
  ihave Hc := (creds (F := F) c) $$ Hcr
  imodintro
  unfold start G'
  isplitr [Hr]
  · isplitl [HG]; · iexact HG
    isplitl [Hc] <;> iassumption
  · iexact Hr

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratch
  rw [counters_eq]
  iintro ⟨⟨Hu, Ho⟩, Hr⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What device `c` leaves in the array of window `w`. -/
def finalA (c : Dev nD) (w : Fin cfg0.W) : Buf (Elt F) ((cfg0.win w).arr.view.loc (c : Thread nD τ)) := (dats m ρ 0 c).arrAt w cfg0.N

/-- What the run leaves: each window's array as computed, and the unused argument as it was. -/
def Final (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- For any float values and any memory with zero counters, every weakly fair execution of the eight devices terminates,
    and leaves the computed arrays and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun c => bpts c main_arg1 (m ((c : Thread nD τ).loc main_arg1)))
    (hX := start_intro m ρ) (hin := phi0_intro m ρ) (hout := phi1_exit m ρ)
    (QY := fun c s => (∀ sm : SemLoc sig, sm.isScoped .tc = false → s.sem ((c.tc : Thread nD τ), sm) = 0) ∧ s.mem ((c : Thread nD τ).loc main_arg1) = m ((c : Thread nD τ).loc main_arg1))
    (hY := fun c s' => by
      iintro ⟨Hu, Hz, HSI⟩
      imod (Pipeline.unscopedSems0_read (X := unscopedSems0 c) (c := c) fupd_intro s') $$ [Hu HSI] with ⟨%h1, HSI⟩
      · isplitl [Hu] <;> iassumption
      icombine HSI Hz gives %h2
      imodintro
      isplitr; · ipureintro; exact ⟨h1, Buf.eq_of_forall_mem_univ h2⟩
      iexact HSI)
    (hQ := fun _ h hs => ⟨fun c => ⟨fun w => (h c).1 w, (h c).2.2.2⟩, sem_eq_zero hs fun c => (h c).2.2.1⟩)

/-- An argument array after the run holds what it held. -/
theorem finalA_in (c : Dev nD) (w : Fin cfg0.W) (h : w.val < 3) : finalA m ρ c w = m ((cfg0.win w).arr.view.loc (c : Thread nD τ)) :=
  (dats (F := F) m ρ 0 c).arrAt_in w (by revert h; revert w; decide) _

end Cert.Moe

end
-- ==== Proof.Frames.lean ====
/-
The frames: both instances of the kernel leave their arguments unchanged and every counter at zero.
-/
module

public import proofs.«01_k».proof.Proof.LaunchRun
public import proofs.«01_k».proof.Defs
public import proofs.«01_k».proof.Proof.Gen.Kernel

@[expose] public section

noncomputable section

namespace Cert.Moe

open Idealize.ShloMosaic Idealize.ShloMosaic.TcCoe Idealize.SL.Sem
open Cert.KernelIdeal (nD τ sig defs main main_arg0 main_arg1 main_arg2 main_arg3)

/-- What a finished run holds of the arguments. -/
theorem Final.args {F : FTy → Type} [FloatOps F] {m : (ℓ : Loc nD τ sig) → Buf (Elt F) ℓ} {ρ : Dev nD → PrngReg} {r : PUnit × MemSt nD τ sig (Elt F)}
    (h : Final m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 0).trans (finalA_in m ρ c 0 (by decide)), (h c).2, ((h c).1 1).trans (finalA_in m ρ c 1 (by decide)), ((h c).1 2).trans (finalA_in m ρ c 2 (by decide))⟩

theorem frame_ideal : Cert.quiescent_KernelIdeal (hKernelIdeal := Cert.KernelIdeal.Gen.facts) := fun m ρ _ =>
  (θ_run defs _ _).mono (fun _ h => ⟨h.1.args, h.2⟩) (run_main m ρ)

set_option smartUnfolding false in
/-- The printed kernel and its idealization are one text, so the run of one is the run of the other. -/
theorem frame_kernel : Cert.quiescent_Kernel (hKernel := Cert.Kernel.Gen.facts) := fun m ρ _ =>
  (θ_run (Cert.KernelIdeal.defs (F := Bits)) _ _).mono (fun _ h => ⟨h.1.args, h.2⟩) (run_main (F := Bits) m ρ)

end Cert.Moe

end
-- ==== Proof.Windows.lean ====
/-
What the windows stage and what the launch leaves: each window is its whole array.
-/
module

public import proofs.«01_k».proof.Proof.LaunchRun
public import Idealize.ShloMosaic.Lib.Pipeline.ValueKit.Geometry

@[expose] public section

noncomputable section

namespace Cert.Moe

open Cert.KernelIdeal Cert.KernelIdeal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

/-- A staged element is the array's own. -/
theorem staged (w : Fin cfg0.W) (a : Fin (cfg0.win w).shape.rank) (y : ((cfg0.win w).xblock (cfg0.grid.coords t0_0)).Idx) :
    (((cfg0.win w).rect t0_0).emb y a : ℕ) = y a :=
  (cfg0.win w).rect_emb_val_of_index_zero t0_0 a (by revert a; clear y; revert w; decide) y

theorem xIn_eq (c : Dev nD) : xIn m c = m ((c.tc : Thread nD τ).loc main_arg0) :=
  funext fun y => congrArg (m ((c.tc : Thread nD τ).loc main_arg0)) (funext fun a => Fin.ext (staged 0 a y))
theorem idxIn_eq (c : Dev nD) : idxIn m c = m ((c.tc : Thread nD τ).loc main_arg2) :=
  funext fun y => congrArg (m ((c.tc : Thread nD τ).loc main_arg2)) (funext fun a => Fin.ext (staged 1 a y))
theorem wIn_eq (c : Dev nD) : wIn m c = m ((c.tc : Thread nD τ).loc main_arg3) :=
  funext fun y => congrArg (m ((c.tc : Thread nD τ).loc main_arg3)) (funext fun a => Fin.ext (staged 2 a y))

/-- The result buffer ends at the block that the body computed. -/
theorem finalA_out (c : Dev nD) : finalA m ρ c 3 = resultOf m c := by
  funext i
  exact (dats m ρ 0 c).arrAt_emb_eq_after_last 3 t0_0 (by decide +kernel) i

end Cert.Moe
-- ==== Proof.Counts.lean ====
/-
The routing in natural numbers: a token's rank among the tokens of its expert, the tokens that a device computes,
their rows among the computed tokens, and their rows in the frame of their block.
-/
module

public import Mathlib.Algebra.BigOperators.Fin
public import Mathlib.Algebra.Order.BigOperators.Group.Finset
public import Mathlib.Data.Fintype.BigOperators

@[expose] public section

namespace Cert.Moe

open Finset

/-- Token `128 b + i`. -/
def tok (b : Fin 8) (i : Fin 128) : Fin 1024 := ⟨128 * b.val + i.val, by omega⟩

theorem tok_val (b : Fin 8) (i : Fin 128) : (tok b i).val = 128 * b.val + i.val := rfl

theorem tok_div (b : Fin 8) (i : Fin 128) : (tok b i).val / 128 = b.val := by rw [tok_val]; omega

/-- Every token is some block's. -/
theorem tok_surj (t : Fin 1024) : ∃ b i, t = tok b i :=
  ⟨⟨t.val / 128, by omega⟩, ⟨t.val % 128, by omega⟩, Fin.ext (by rw [tok_val]; show t.val = 128 * (t.val / 128) + t.val % 128; omega)⟩

theorem tok_lt (b b' : Fin 8) (i i' : Fin 128) : tok b i < tok b' i' ↔ b < b' ∨ (b = b' ∧ i < i') := by
  simp only [Fin.lt_def, Fin.ext_iff, tok_val]
  omega

theorem tok_inj {b b' : Fin 8} {i i' : Fin 128} (h : tok b i = tok b' i') : b = b' ∧ i = i' := by
  simp only [Fin.ext_iff, tok_val] at h ⊢
  omega

/-- A sum over tokens, block by block. -/
theorem sum_tok {M : Type} [AddCommMonoid M] (f : Fin 1024 → M) : ∑ t, f t = ∑ b : Fin 8, ∑ i : Fin 128, f (tok b i) := by
  rw [← Fintype.sum_prod_type' (f := fun b i => f (tok b i))]
  refine (Fintype.sum_bijective (fun p : Fin 8 × Fin 128 => tok p.1 p.2) ⟨fun p q h => ?_, fun t => ?_⟩ _ _ fun _ => rfl).symm
  · exact Prod.ext (tok_inj h).1 (tok_inj h).2
  · obtain ⟨b, i, rfl⟩ := tok_surj t
    exact ⟨(b, i), rfl⟩

variable (e : Fin 1024 → BitVec 32)

/-- How many earlier tokens name the token's expert. -/
def rk (t : Fin 1024) : ℕ := #{s | s < t ∧ e s = e t}

/-- Device `d` computes token `t`: the token is within its expert's capacity and the expert is one of the device's four. -/
def Sel (d : Fin 8) (t : Fin 1024) : Prop := rk e t < 25 ∧ (e t).toNat / 4 = d.val

instance (d : Fin 8) : DecidablePred (Sel e d) := fun _ => inferInstanceAs (Decidable (_ ∧ _))

/-- The token's row among the tokens of its block that device `d` computes. -/
def place (d : Fin 8) (t : Fin 1024) : ℕ := #{s | s < t ∧ (s.val / 128 = t.val / 128 ∧ Sel e d s)}

/-- The token's row among the tokens that device `d` computes: 32 rows for each of its four experts. -/
def row (d : Fin 8) (t : Fin 1024) : ℕ := ((e t).toNat - 4 * d.val) * 32 + rk e t

/-- A count of the earlier members grows strictly along the members. -/
theorem card_earlier_lt {Q : Fin 1024 → Prop} [DecidablePred Q] {s t : Fin 1024} (h : s < t) (hs : Q s) :
    #{u | u < s ∧ Q u} < #{u | u < t ∧ Q u} := by
  refine card_lt_card ?_
  rw [ssubset_iff_of_subset (fun u hu => ?_)]
  · exact ⟨s, mem_filter.2 ⟨mem_univ _, h, hs⟩, fun hm => lt_irrefl s (mem_filter.1 hm).2.1⟩
  · have hu' := (mem_filter.1 hu).2
    exact mem_filter.2 ⟨mem_univ _, hu'.1.trans h, hu'.2⟩

variable {e}

theorem rk_inj {s t : Fin 1024} (he : e s = e t) (h : rk e s = rk e t) : s = t := by
  by_contra hne
  have key : ∀ {a b : Fin 1024}, e a = e b → a < b → rk e a < rk e b := fun {a b} hab hl => by
    have := card_earlier_lt (Q := fun u => e u = e b) hl hab
    unfold rk
    rw [hab]
    exact this
  rcases lt_or_gt_of_ne hne with hl | hl
  · exact absurd (key he hl) (by omega)
  · exact absurd (key he.symm hl) (by omega)

theorem Sel.owner {d : Fin 8} {t : Fin 1024} (h : Sel e d t) : (e t).toNat = 4 * d.val + ((e t).toNat - 4 * d.val) ∧ (e t).toNat - 4 * d.val < 4 := by
  have := h.2
  omega

theorem row_lt {d : Fin 8} {t : Fin 1024} (h : Sel e d t) : row e d t < 128 := by
  have h1 := h.1
  have h2 := h.owner
  unfold row
  omega

theorem row_div {d : Fin 8} {t : Fin 1024} (h : Sel e d t) : row e d t / 32 = (e t).toNat - 4 * d.val := by
  have h1 := h.1
  unfold row
  omega

theorem row_inj {d : Fin 8} {s t : Fin 1024} (hs : Sel e d s) (ht : Sel e d t) (h : row e d s = row e d t) : s = t := by
  have h1 := hs.1
  have h2 := ht.1
  have h3 := hs.owner
  have h4 := ht.owner
  unfold row at h
  refine rk_inj (e := e) (BitVec.eq_of_toNat_eq ?_) ?_ <;> omega

theorem place_inj {d : Fin 8} {s t : Fin 1024} (hb : s.val / 128 = t.val / 128) (hs : Sel e d s) (ht : Sel e d t)
    (h : place e d s = place e d t) : s = t := by
  by_contra hne
  have key : ∀ {a b : Fin 1024}, a.val / 128 = b.val / 128 → Sel e d a → a < b → place e d a < place e d b := fun {a b} hab ha hl => by
    have := card_earlier_lt (Q := fun u => u.val / 128 = b.val / 128 ∧ Sel e d u) hl ⟨hab, ha⟩
    unfold place
    rw [hab]
    exact this
  rcases lt_or_gt_of_ne hne with hl | hl
  · exact absurd (key hb hs hl) (by omega)
  · exact absurd (key hb.symm ht hl) (by omega)

theorem Sel.unique {d d' : Fin 8} {t : Fin 1024} (h : Sel e d t) (h' : Sel e d' t) : d = d' := Fin.ext (h.2.symm.trans h'.2)

/-! ## Counts, block by block -/

/-- Of the tokens of a block, the earlier ones that satisfy `Q`. -/
theorem card_block (Q : Fin 1024 → Prop) [DecidablePred Q] (b : Fin 8) (i : Fin 128) :
    #{s | s < tok b i ∧ (s.val / 128 = (tok b i).val / 128 ∧ Q s)} = ∑ j : Fin 128, if j < i ∧ Q (tok b j) then 1 else 0 := by
  rw [card_filter, sum_tok, Finset.sum_eq_single b]
  · refine Finset.sum_congr rfl fun j _ => if_congr ?_ rfl rfl
    rw [tok_lt, tok_div, tok_div]
    simp
  · intro b' _ hb
    refine Finset.sum_eq_zero fun j _ => if_neg fun h => hb (Fin.ext ?_)
    simpa [tok_div] using h.2.1
  · exact fun h => absurd (mem_univ _) h

/-- Of all tokens, the earlier ones that satisfy `Q`: those of the block and those of the earlier blocks. -/
theorem card_earlier (Q : Fin 1024 → Prop) [DecidablePred Q] (b : Fin 8) (i : Fin 128) :
    #{s | s < tok b i ∧ Q s} = (∑ j : Fin 128, if j < i ∧ Q (tok b j) then 1 else 0) + ∑ b' : Fin 8, if b' < b then ∑ j : Fin 128, (if Q (tok b' j) then 1 else 0) else 0 := by
  rw [← card_block Q b i, card_filter, card_filter, sum_tok, sum_tok (fun a => if a < tok b i ∧ _ then 1 else 0), ← Finset.sum_add_distrib]
  refine Finset.sum_congr rfl fun b' _ => ?_
  have h0 : (if b' < b then ∑ j : Fin 128, (if Q (tok b' j) then 1 else 0) else 0) = ∑ j : Fin 128, if b' < b ∧ Q (tok b' j) then 1 else 0 := by
    by_cases h : b' < b <;> simp [h]
  rw [h0, ← Finset.sum_add_distrib]
  refine Finset.sum_congr rfl fun j _ => ?_
  simp only [tok_lt, tok_div]
  by_cases hq : Q (tok b' j)
  · rcases lt_trichotomy b' b with h | h | h
    · simp [h, hq, ne_of_lt (Fin.lt_def.1 h), h.ne]
    · subst h; simp [hq]
    · simp [h, hq, h.ne', not_lt_of_gt h, (Fin.lt_def.1 h).ne']
  · simp [hq]

end Cert.Moe
-- ==== Proof.IdealKit.lean ====
/-
Zeros, ones and counts among the extended reals: what a widened condition reads as a number, and the sums that select
one term or count.
-/
module

public import Idealize.ShloMosaic.Lib.IdealHost
public import Idealize.ShloMosaic.Lib.Routing.BitFacts

@[expose] public section

noncomputable section

namespace Cert.Moe

open Idealize.ShloMosaic Finset

/-- A condition widened and read as a number. -/
theorem num_cond (p : Prop) [Decidable p] :
    (FloatOps.sitofp (F := Ideal) .f32 (BitVec.setWidth 32 (BitVec.ofBool (decide p))) : EReal) = if p then 1 else 0 := by
  show (((BitVec.setWidth 32 (BitVec.ofBool (decide p))).toInt : ℝ) : EReal) = _
  by_cases h : p
  · simp [h]
  · simp [h]

/-- A small number's word read as a number. -/
theorem num_ofNat {n : ℕ} (h : n < 2 ^ 31) : (FloatOps.sitofp (F := Ideal) .f32 (BitVec.ofNat 32 n) : EReal) = (n : EReal) := by
  show (((BitVec.ofNat 32 n).toInt : ℝ) : EReal) = _
  rw [WordCmp.toInt_ofNat_of_lt (w := 32) h]
  simp

theorem ofBits_25 : (FloatOps.ofBits (F := Ideal) .f32 0x41C80000#32 : EReal) = ((25 : ℕ) : EReal) := by
  show Ideal.ofBits .f32 0x41C80000#32 = _
  rw [show ((25 : ℕ) : EReal) = ((25 : ℝ) : EReal) by norm_cast]
  simp [Ideal.ofBits, Ideal.ieee, -EReal.coe_mul]; norm_num

theorem ofBits_32 : (FloatOps.ofBits (F := Ideal) .f32 0x42000000#32 : EReal) = ((32 : ℕ) : EReal) := by
  show Ideal.ofBits .f32 0x42000000#32 = _
  rw [show ((32 : ℕ) : EReal) = ((32 : ℝ) : EReal) by norm_cast]
  simp [Ideal.ofBits, Ideal.ieee, -EReal.coe_mul]; norm_num

theorem ofBits_neg_one : (FloatOps.ofBits (F := Ideal) .f32 0xBF800000#32 : EReal) = ((-1 : ℝ) : EReal) := by
  show Ideal.ofBits .f32 0xBF800000#32 = _
  simp [Ideal.ofBits, Ideal.ieee, -EReal.coe_mul, -EReal.coe_neg]; norm_num

theorem nat_ne_neg_one (n : ℕ) : ((-1 : ℝ) : EReal) ≠ (n : EReal) := by
  rw [show (n : EReal) = ((n : ℝ) : EReal) by norm_cast]
  intro h
  have := EReal.coe_injective h
  have h2 : (0 : ℝ) ≤ n := Nat.cast_nonneg n
  linarith

theorem nat_inj {m n : ℕ} : (m : EReal) = (n : EReal) ↔ m = n := by
  rw [show (m : EReal) = ((m : ℝ) : EReal) by norm_cast, show (n : EReal) = ((n : ℝ) : EReal) by norm_cast, EReal.coe_eq_coe_iff]
  exact Nat.cast_inj

theorem nat_lt {m n : ℕ} : (m : EReal) < (n : EReal) ↔ m < n := by
  rw [show (m : EReal) = ((m : ℝ) : EReal) by norm_cast, show (n : EReal) = ((n : ℝ) : EReal) by norm_cast, EReal.coe_lt_coe_iff]
  exact Nat.cast_lt

theorem one_zero_mul (p q : Prop) [Decidable p] [Decidable q] : ((if p then 1 else 0) * (if q then 1 else 0) : EReal) = if p ∧ q then 1 else 0 := by
  by_cases hp : p <;> by_cases hq : q <;> simp [hp, hq]

theorem one_zero_cast (p : Prop) [Decidable p] : ((if p then 1 else 0 : EReal)) = (((if p then 1 else 0 : ℕ)) : EReal) := by
  by_cases hp : p <;> simp [hp]

theorem ite_one_mul (p : Prop) [Decidable p] (x : EReal) : (if p then 1 else 0) * x = if p then x else 0 := by
  by_cases hp : p <;> simp [hp]

theorem ite_mul_one (p : Prop) [Decidable p] (x : EReal) : x * (if p then 1 else 0) = if p then x else 0 := by
  by_cases hp : p <;> simp [hp]

/-- A sum with one possible term. -/
theorem sum_one {ι : Type} [Fintype ι] {M : Type} [AddCommMonoid M] (p : ι → Prop) [DecidablePred p] (f : ι → M) (a : ι) (h : ∀ i, p i → i = a) :
    ∑ i, (if p i then f i else 0) = if p a then f a else 0 := by
  rw [Fintype.sum_eq_single a fun i hi => if_neg fun hp => hi (h i hp)]

theorem ofBool_inj {p q : Prop} [Decidable p] [Decidable q] (h : p ↔ q) : BitVec.ofBool (decide p) = BitVec.ofBool (decide q) := by
  rw [decide_eq_decide.2 h]

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem cmpi_eq_def {w : ℕ} (x y : BitVec w) : IntOp.cmpi .eq x y = BitVec.ofBool (decide (x = y)) := rfl

/-- The comparison of two small numbers' words. -/
theorem cmpi_sgt_ofNat {a b : ℕ} (ha : a < 2 ^ 31) (hb : b < 2 ^ 31) :
    IntOp.cmpi .sgt (BitVec.ofNat 32 a) (BitVec.ofNat 32 b) = BitVec.ofBool (decide (b < a)) := by
  show BitVec.ofBool ((BitVec.ofNat 32 b).slt (BitVec.ofNat 32 a)) = _
  rw [Routing.slt_ofNat32 hb ha]

end Cert.Moe
-- ==== Proof.RankRead.lean ====
/-
The rank of a token, read from the printed tables: block by block, each block's piece being one term.
-/
module

public import proofs.«01_k».proof.Proof.Chain
public import proofs.«01_k».proof.Proof.Counts
public import proofs.«01_k».proof.Proof.IdealKit
public import Idealize.ShloMosaic.Lib.Pointwise
public import Idealize.ShloMosaic.Lib.Pipeline.Value

@[expose] public section

noncomputable section

namespace Cert.Moe

open Cert.KernelIdeal Cert.KernelIdeal.Gen
open Idealize.ShloMosaic Finset

/-- The experts' words, token by token. -/
def ids (E : Vec Ideal S1024x1 .i32) (t : Fin 1024) : BitVec 32 := E (ix2 t 0)

theorem ofNat32_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- A word is a small number's. -/
theorem eq_ofNat32 {x : BitVec 32} {k : ℕ} (hk : k < 2 ^ 32) : x = BitVec.ofNat 32 k ↔ x.toNat = k := by
  constructor
  · rintro rfl
    rw [BitVec.toNat_ofNat, Nat.mod_eq_of_lt hk]
  · intro h
    exact BitVec.eq_of_toNat_eq (by rw [BitVec.toNat_ofNat, Nat.mod_eq_of_lt hk, h])

/-! ## The tables of zeros and ones -/

theorem tri_apply (i j : Fin 128) : tri (F := Ideal) (ix2 i j) = if j < i then 1 else 0 := by
  unfold tri
  unfold_payloads
  pointwise
  rw [cmpi_sgt_ofNat (by omega) (by omega), num_cond]
  exact if_congr Fin.lt_def.symm rfl rfl

theorem tri8_apply (i j : Fin 8) : tri8 (F := Ideal) (ix2 i j) = if j < i then 1 else 0 := by
  unfold tri8
  unfold_payloads
  pointwise
  rw [cmpi_sgt_ofNat (by omega) (by omega), num_cond]
  exact if_congr Fin.lt_def.symm rfl rfl

section Tables

variable (E : Vec Ideal S1024x1 .i32)

theorem isExpert_apply (t : Fin 1024) (k : Fin 32) : isExpert (F := Ideal) E (ix2 t k) = BitVec.ofBool (decide ((ids E t).toNat = k.val)) := by
  unfold isExpert expertOf expertIds
  unfold_payloads
  pointwise
  rw [cmpi_eq_def]
  exact ofBool_inj (eq_ofNat32 (by omega))

theorem oneHot_apply (t : Fin 1024) (k : Fin 32) : oneHot (F := Ideal) E (ix2 t k) = if (ids E t).toNat = k.val then 1 else 0 := by
  rw [← num_cond, ← isExpert_apply]
  unfold oneHot
  unfold_payloads
  pointwise
  rfl

/-! ## The counts of the blocks -/

theorem slices32 : ∀ b : Fin 8, S1024x32.Slices ![128 * b.val, 0] S128x32 := by decide
theorem slices8row : ∀ b : Fin 8, S8x32.Slices ![b.val, 0] S1x32 := by decide

/-- The counts of block `b`. -/
def blockPiece (b : Fin 8) : FVec Ideal S1x32 .f32 :=
  shapeCast S1x32 (multiReduction .add [0] S32 (extf .f32 (extractStridedSlice S128x32 ![128 * b.val, 0] (oneHot (F := Ideal) E) (slices32 b)) bitsLt_bf16_f32)
    0x00000000#32 reduces_S128x32_S32 (.inl rfl) rfl) shapeCasts_S32_S1x32

theorem blockPiece_apply (b : Fin 8) (k : Fin 32) :
    blockPiece E b (ix2 0 k) = ∑ j : Fin 128, oneHot (F := Ideal) E (ix2 (tok b j) k) := by
  unfold blockPiece
  pointwise
  rfl

theorem perBlock_pieces :
    perBlock (F := Ideal) E = truncf .bf16 (concatenate S8x32 0 (List.ofFn fun b : Fin 8 => ⟨S1x32, blockPiece E b⟩)
      concatenates_S1x32_S1x32_S1x32_S1x32_S1x32_S1x32_S1x32_S1x32_S8x32_d0) bitsLt_bf16_f32 := rfl

theorem perBlock_apply (b : Fin 8) (k : Fin 32) :
    perBlock (F := Ideal) E (ix2 b k) = ∑ j : Fin 128, oneHot (F := Ideal) E (ix2 (tok b j) k) := by
  rw [perBlock_pieces, ← blockPiece_apply]
  refine concatenate_ofFn_apply (t := S8x32) (s₁ := S1x32) 0 (blockPiece E) concatenates_S1x32_S1x32_S1x32_S1x32_S1x32_S1x32_S1x32_S1x32_S8x32_d0 rfl 1 rfl _ b ?_ (ix2 0 k) ?_ ?_
  · show b.val / 1 = b.val
    omega
  · show 0 = b.val % 1
    omega
  · intro a ha
    fin_cases a
    · exact absurd rfl ha
    · rfl

theorem before8_apply (b : Fin 8) (k : Fin 32) : before8 (F := Ideal) E (ix2 b k) = ∑ b' : Fin 8, if b' < b then perBlock (F := Ideal) E (ix2 b' k) else 0 := by
  unfold before8 zero832
  unfold_payloads
  pointwise
  exact Finset.sum_congr rfl fun b' _ => by rw [tri8_apply]; exact ite_one_mul _ _

/-! ## The rank -/

/-- The ranks of block `b`. -/
def rankPiece (b : Fin 8) : FVec Ideal S128x1 .f32 :=
  shapeCast S128x1 (multiReduction .add [1] S128 (mulf (addf
    (matmul dot_S128x128_S128x32_S128x32_1_0_0_1_n_n none (tri (F := Ideal)) (extractStridedSlice S128x32 ![128 * b.val, 0] (oneHot (F := Ideal) E) (slices32 b)) (constant (F := Ideal) S128x32 .f32 0x00000000#32))
    (broadcastTo S128x32 (extractStridedSlice S1x32 ![b.val, 0] (before8 (F := Ideal) E) (slices8row b)) broadcasts_S1x32_S128x32))
    (sitofp .f32 (extui 32 (extractStridedSlice S128x32 ![128 * b.val, 0] (isExpert (F := Ideal) E) (slices32 b)) natLt_1_32))) 0x00000000#32 reduces_S128x32_S128 (.inl rfl) rfl) shapeCasts_S128_S128x1

theorem rankOf_pieces :
    rankOf (F := Ideal) E = concatenate S1024x1 0 (List.ofFn fun b : Fin 8 => ⟨S128x1, rankPiece E b⟩) concatenates_S128x1_S128x1_S128x1_S128x1_S128x1_S128x1_S128x1_S128x1_S1024x1_d0 := rfl

theorem rankOf_piece (b : Fin 8) (i : Fin 128) :
    rankOf (F := Ideal) E (ix2 (tok b i) 0) = rankPiece E b (ix2 i 0) := by
  rw [rankOf_pieces]
  refine concatenate_ofFn_apply (t := S1024x1) (s₁ := S128x1) 0 (rankPiece E) _ rfl 128 rfl _ b ?_ (ix2 i 0) ?_ ?_
  · show (128 * b.val + i.val) / 128 = b.val
    omega
  · show i.val = (128 * b.val + i.val) % 128
    omega
  · intro a ha
    fin_cases a
    · exact absurd rfl ha
    · rfl

theorem rankPiece_apply (b : Fin 8) (i : Fin 128) :
    rankPiece E b (ix2 i 0) = ∑ k : Fin 32, if (ids E (tok b i)).toNat = k.val then
      ((#{s | s < tok b i ∧ (ids E s).toNat = k.val} : ℕ) : EReal) else 0 := by
  unfold rankPiece
  pointwise
  refine Finset.sum_congr rfl fun k _ => ?_
  have h1 : isExpert (F := Ideal) E (ix2 ⟨128 * b.val + i.val, (tok b i).isLt⟩ k) = BitVec.ofBool (decide ((ids E (tok b i)).toNat = k.val)) := isExpert_apply E (tok b i) k
  rw [h1, num_cond, ite_mul_one]
  refine if_congr Iff.rfl ?_ rfl
  rw [card_earlier (fun s => (ids E s).toNat = k.val), Nat.cast_add, Nat.cast_sum, Nat.cast_sum]
  refine congrArg₂ (· + ·) (Finset.sum_congr rfl fun j _ => ?_) ?_
  · have h2 : oneHot (F := Ideal) E (ix2 ⟨128 * b.val + j.val, (tok b j).isLt⟩ k) = if (ids E (tok b j)).toNat = k.val then 1 else 0 := oneHot_apply E (tok b j) k
    rw [h2, tri_apply, ← one_zero_cast]
    exact one_zero_mul _ _
  · rw [before8_apply]
    refine Finset.sum_congr rfl fun b' _ => ?_
    by_cases h : b' < b
    · rw [if_pos h, if_pos h, perBlock_apply, Nat.cast_sum]
      exact Finset.sum_congr rfl fun j _ => by rw [oneHot_apply, ← one_zero_cast]
    · rw [if_neg h, if_neg h, Nat.cast_zero]

/-- The rank of a token that names an expert; zero for another. -/
theorem rankOf_apply (t : Fin 1024) :
    rankOf (F := Ideal) E (ix2 t 0) = (((if (ids E t).toNat < 32 then rk (ids E) t else 0 : ℕ)) : EReal) := by
  obtain ⟨b, i, rfl⟩ := tok_surj t
  rw [rankOf_piece, rankPiece_apply]
  by_cases h : (ids E (tok b i)).toNat < 32
  · rw [if_pos h, sum_one _ _ (⟨_, h⟩ : Fin 32) fun k hk => Fin.ext hk.symm, if_pos rfl]
    unfold rk
    congr 2
    ext s
    simp only [mem_filter, mem_univ, true_and]
    exact and_congr_right fun _ => ⟨fun h => BitVec.eq_of_toNat_eq h, fun h => congrArg _ h⟩
  · rw [if_neg h, Nat.cast_zero]
    exact Finset.sum_eq_zero fun k _ => if_neg fun hk => h (by rw [hk]; exact k.isLt)

end Tables

end Cert.Moe
-- ==== Proof.OwnerRead.lean ====
/-
The owner of a token's expert: the printed floor division by four names device `d` for the words from `4 d` to
`4 d + 3`, and no device for a word that is out of range.
-/
module

public import proofs.«01_k».proof.Proof.RankRead

@[expose] public section

noncomputable section

namespace Cert.Moe

open Cert.KernelIdeal Cert.KernelIdeal.Gen
open Idealize.ShloMosaic Finset

/-- The printed floor division of a word by a word. -/
def floorW (x k : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt k 0#32)) (Scalar.extui (Scalar.cmpi .slt k 0#32))))
      (IntOp.cmpi .ne (IntOp.remsi .vector x k) 0#32))
    (IntOp.subi (IntOp.divsi .vector x k) 1#32) (IntOp.divsi .vector x k)

/-- The floor division of one number by a positive one, on their words. -/
theorem floorW_ofNat {m k : ℕ} (hm : m < 2 ^ 31) (hk0 : 0 < k) (hk : k < 2 ^ 31) :
    floorW (BitVec.ofNat 32 m) (BitVec.ofNat 32 k) = BitVec.ofNat 32 (m / k) := by
  have hpos : ∀ {n : ℕ}, n < 2 ^ 31 → 0 < n → IntOp.cmpi .sgt (BitVec.ofNat 32 n) 0#32 = 1#1 := fun {n} hn h => by
    rw [show (0#32 : BitVec 32) = BitVec.ofNat 32 0 from rfl, cmpi_sgt_ofNat hn (by omega)]; simp [h]
  have hneg : ∀ {n : ℕ}, n < 2 ^ 31 → IntOp.cmpi .slt (BitVec.ofNat 32 n) 0#32 = 0#1 := fun {n} hn => by
    show BitVec.ofBool ((BitVec.ofNat 32 n).slt (BitVec.ofNat 32 0)) = _
    rw [Routing.slt_ofNat32 hn (by omega)]; simp
  have hc : ¬ IntOp.SDivCorner (BitVec.ofNat 32 m) (BitVec.ofNat 32 k) := by
    rintro (h | ⟨-, h⟩)
    · exact Routing.ofNat32_ne_zero hk0 (by omega) h
    · exact Routing.ofNat32_ne_neg_one hk h
  have hd : IntOp.divsi .vector (BitVec.ofNat 32 m) (BitVec.ofNat 32 k) = BitVec.ofNat 32 (m / k) := (if_neg hc).trans (Routing.sdiv_ofNat32 hm hk)
  have hr : IntOp.remsi .vector (BitVec.ofNat 32 m) (BitVec.ofNat 32 k) = BitVec.ofNat 32 (m % k) := (if_neg hc).trans (Routing.srem_ofNat32 hm hk)
  have h1 : Scalar.subi (Scalar.extui (Scalar.cmpi .sgt (BitVec.ofNat 32 k) 0#32)) (Scalar.extui (Scalar.cmpi .slt (BitVec.ofNat 32 k) 0#32)) = 1#32 := by
    rw [show Scalar.cmpi .sgt (BitVec.ofNat 32 k) 0#32 = 1#1 from hpos hk hk0, show Scalar.cmpi .slt (BitVec.ofNat 32 k) 0#32 = 0#1 from hneg hk]
    decide
  have e0 : ∀ y : BitVec 1, IntOp.andi 0#1 y = 0#1 := by decide
  have e1 : ∀ y : BitVec 1, IntOp.andi y 0#1 = 0#1 := by decide
  unfold floorW
  rw [hd, hr, h1, hneg hm]
  rcases Nat.eq_zero_or_pos m with rfl | hm0
  · have e2 : IntOp.cmpi .ne (BitVec.ofNat 32 (0 % k)) 0#32 = 0#1 := by rw [Nat.zero_mod]; decide
    rw [e2, e1]
    rfl
  · have e3 : IntOp.cmpi .ne (IntOp.subi (BitVec.setWidth 32 1#1) (BitVec.setWidth 32 0#1)) 1#32 = 0#1 := by decide
    rw [hpos hm hm0, e3, e0]
    rfl

/-- The printed floor division of a word by four. -/
def floor4 (x : BitVec 32) : BitVec 32 := floorW x 4#32

theorem ownerOf_floor4 (E : Vec Ideal S1024x1 .i32) (t : Fin 1024) : ownerOf (F := Ideal) E (ix2 t 0) = floor4 (ids E t) := by
  unfold ownerOf expertOf
  unfold_payloads
  pointwise
  rfl

theorem not_corner (x : BitVec 32) : ¬ IntOp.SDivCorner x 4#32 := by
  unfold IntOp.SDivCorner
  simp

theorem floor4_eq (x : BitVec 32) (d : Fin 8) : floor4 x = BitVec.ofNat 32 d.val ↔ x.toNat / 4 = d.val := by
  have hd : IntOp.divsi .vector x 4#32 = x.sdiv 4#32 := if_neg (not_corner x)
  have hr : IntOp.remsi .vector x 4#32 = x.srem 4#32 := if_neg (not_corner x)
  have h1 : Scalar.subi (Scalar.extui (Scalar.cmpi .sgt 4#32 0#32)) (Scalar.extui (Scalar.cmpi .slt 4#32 0#32)) = 1#32 := by decide
  by_cases hx : x.toNat < 2 ^ 31
  · obtain ⟨n, rfl⟩ : ∃ n, x = BitVec.ofNat 32 n := ⟨x.toNat, by simp⟩
    have hn : (BitVec.ofNat 32 n).toNat < 2 ^ 31 := hx
    have hnm : BitVec.ofNat 32 n = BitVec.ofNat 32 (BitVec.ofNat 32 n).toNat := (eq_ofNat32 (by omega)).2 rfl
    rw [show floor4 (BitVec.ofNat 32 n) = BitVec.ofNat 32 ((BitVec.ofNat 32 n).toNat / 4) from
      (congrArg floor4 hnm).trans (floorW_ofNat hn (by decide) (by decide))]
    exact ⟨fun h => ofNat32_inj (by omega) (by omega) h, fun h => by rw [h]⟩
  · have hneg : x.toInt < 0 := by
      rw [BitVec.toInt_eq_toNat_cond]
      have := x.isLt
      split_ifs <;> omega
    have e1 : IntOp.cmpi .sgt x 0#32 = 0#1 := by
      show BitVec.ofBool (decide ((0#32 : BitVec 32).toInt < x.toInt)) = _
      rw [decide_eq_false (by simp; omega)]; rfl
    have e2 : IntOp.cmpi .slt x 0#32 = 1#1 := by
      show BitVec.ofBool (decide (x.toInt < (0#32 : BitVec 32).toInt)) = _
      rw [decide_eq_true (by simpa using hneg)]; rfl
    have e3 : IntOp.cmpi .ne (IntOp.subi (BitVec.setWidth 32 0#1) (BitVec.setWidth 32 1#1)) 1#32 = 1#1 := by decide
    have hq : (x.sdiv 4#32).toInt = x.toInt.tdiv 4 := by
      rw [BitVec.toInt_sdiv_of_ne_or_ne _ _ (Or.inr (by decide))]; rfl
    have hm : (x.srem 4#32).toInt = x.toInt.tmod 4 := by rw [BitVec.toInt_srem]; rfl
    unfold floor4 floorW
    rw [hd, hr, h1, e1, e2, e3]
    refine ⟨fun h => ?_, fun h => absurd h (by have := d.isLt; omega)⟩
    exfalso
    by_cases h0 : x.srem 4#32 = 0#32
    · have e5 : IntOp.cmpi .ne (x.srem 4#32) 0#32 = 0#1 := by rw [h0]; decide
      rw [e5] at h
      have h' : x.sdiv 4#32 = BitVec.ofNat 32 d.val := h
      rw [h', WordCmp.toInt_ofNat_of_lt (w := 32) (by have := d.isLt; omega)] at hq
      rw [h0] at hm
      have h2 : x.toInt.tmod 4 = 0 := hm.symm
      have h3 := Int.tmod_add_mul_tdiv x.toInt 4
      omega
    · have e5 : IntOp.cmpi .ne (x.srem 4#32) 0#32 = 1#1 := by
        show BitVec.ofBool (!(x.srem 4#32 == 0#32)) = _
        rw [beq_false_of_ne h0]; rfl
      rw [e5] at h
      have h' : x.sdiv 4#32 - 1#32 = BitVec.ofNat 32 d.val := h
      have h'' : x.sdiv 4#32 = BitVec.ofNat 32 (d.val + 1) := by
        rw [← BitVec.ofNat_add_ofNat, ← h', BitVec.sub_add_cancel]
      rw [h'', WordCmp.toInt_ofNat_of_lt (w := 32) (by have := d.isLt; omega)] at hq
      have h3 := Int.tmod_add_mul_tdiv x.toInt 4
      have h4 : x.toInt.tmod 4 > -4 := Int.lt_tmod_of_pos _ (by decide)
      have h5 : x.toInt.tmod 4 ≤ 0 := by
        have := Int.tmod_nonneg (a := -x.toInt) 4 (by omega)
        rw [Int.neg_tmod] at this
        omega
      push_cast at hq
      omega

end Cert.Moe
-- ==== Proof.SlotRead.lean ====
/-
The routing tables read at a token: whether the token is within capacity and whose it is, its row in the frame of each
device, and its row among the tokens that a device computes.
-/
module

public import proofs.«01_k».proof.Proof.OwnerRead

@[expose] public section

noncomputable section

namespace Cert.Moe

open Cert.KernelIdeal Cert.KernelIdeal.Gen
open Idealize.ShloMosaic Finset

section Tables

variable (E : Vec Ideal S1024x1 .i32)

theorem keptOf_apply (t : Fin 1024) :
    keptOf (F := Ideal) E (ix2 t 0) = BitVec.ofBool (decide ((if (ids E t).toNat < 32 then rk (ids E) t else 0) < 25)) := by
  have h : keptOf (F := Ideal) E (ix2 t 0) = FloatOps.cmpf (F := Ideal) (φ := .f32) .olt (rankOf (F := Ideal) E (ix2 t 0)) (FloatOps.ofBits (F := Ideal) .f32 0x41C80000#32) := rfl
  rw [h, rankOf_apply, ofBits_25]
  exact ofBool_inj nat_lt

theorem kept_owner (t : Fin 1024) (d : Fin 8) :
    IntOp.andi (keptOf (F := Ideal) E (ix2 t 0)) (IntOp.cmpi .eq (ownerOf (F := Ideal) E (ix2 t 0)) (BitVec.ofNat 32 d.val)) = BitVec.ofBool (decide (Sel (ids E) d t)) := by
  rw [keptOf_apply, ownerOf_floor4, cmpi_eq_def, andi_ofBool]
  refine ofBool_inj ?_
  rw [floor4_eq]
  unfold Sel
  refine and_congr_left fun h => ?_
  rw [if_pos (by have := d.isLt; omega)]

/-! ## The rows in the frames -/

/-- Which device computes which token. -/
def chosen : IVec S1024x8 1 :=
  andi (broadcastTo S1024x8 (keptOf (F := Ideal) E) broadcasts_S1024x1_S1024x8) (cmpi .eq (broadcastTo S1024x8 (ownerOf (F := Ideal) E) broadcasts_S1024x1_S1024x8) devIds)

theorem chosen_apply (t : Fin 1024) (d : Fin 8) : chosen E (ix2 t d) = BitVec.ofBool (decide (Sel (ids E) d t)) := by
  rw [← kept_owner]
  unfold chosen devIds
  pointwise

theorem slices8 : ∀ b : Fin 8, S1024x8.Slices ![128 * b.val, 0] S128x8 := by decide

/-- The rows of block `b`. -/
def slotPiece (b : Fin 8) : FVec Ideal S128x8 .f32 :=
  matmul dot_S128x128_S128x8_S128x8_1_0_0_1_n_n none (tri (F := Ideal))
    (extractStridedSlice S128x8 ![128 * b.val, 0] (truncf .bf16 (sitofp (F := Ideal) .f32 (extui 32 (chosen E) natLt_1_32)) bitsLt_bf16_f32) (slices8 b)) (constant (F := Ideal) S128x8 .f32 0x00000000#32)

/-- The rows of all blocks. -/
def placeTable : FVec Ideal S1024x8 .f32 :=
  concatenate S1024x8 0 (List.ofFn fun b : Fin 8 => ⟨S128x8, slotPiece E b⟩) concatenates_S128x8_S128x8_S128x8_S128x8_S128x8_S128x8_S128x8_S128x8_S1024x8_d0

theorem slotOf_pieces : slotOf (F := Ideal) E = select (chosen E) (placeTable E) (broadcast S1024x8 (Scalar.ofBits .f32 0xBF800000#32)) := rfl

theorem slotPiece_apply (b : Fin 8) (i : Fin 128) (d : Fin 8) : slotPiece E b (ix2 i d) = ((place (ids E) d (tok b i) : ℕ) : EReal) := by
  unfold slotPiece
  pointwise [dot_S128x128_S128x8_S128x8_1_0_0_1_n_n]
  unfold place
  rw [card_block, Nat.cast_sum]
  refine Finset.sum_congr rfl fun j _ => ?_
  have h1 : chosen E (ix2 ⟨128 * b.val + j.val, (tok b j).isLt⟩ d) = BitVec.ofBool (decide (Sel (ids E) d (tok b j))) := chosen_apply E (tok b j) d
  rw [h1, num_cond, tri_apply, ← one_zero_cast]
  exact one_zero_mul _ _

theorem placeTable_apply (t : Fin 1024) (d : Fin 8) : placeTable E (ix2 t d) = ((place (ids E) d t : ℕ) : EReal) := by
  obtain ⟨b, i, rfl⟩ := tok_surj t
  rw [← slotPiece_apply]
  refine concatenate_ofFn_apply (t := S1024x8) (s₁ := S128x8) 0 (slotPiece E) _ rfl 128 rfl _ b ?_ (ix2 i d) ?_ ?_
  · show (128 * b.val + i.val) / 128 = b.val
    omega
  · show i.val = (128 * b.val + i.val) % 128
    omega
  · intro a ha
    fin_cases a
    · exact absurd rfl ha
    · rfl

/-- A token's row in the frame that device `d` sends to its block; minus one if the device does not compute it. -/
theorem slotOf_apply (t : Fin 1024) (d : Fin 8) :
    slotOf (F := Ideal) E (ix2 t d) = if Sel (ids E) d t then ((place (ids E) d t : ℕ) : EReal) else ((-1 : ℝ) : EReal) := by
  rw [slotOf_pieces, ← ofBits_neg_one]
  show Scalar.select (chosen E (ix2 t d)) (placeTable E (ix2 t d)) (FloatOps.ofBits (F := Ideal) .f32 0xBF800000#32) = _
  rw [chosen_apply, placeTable_apply]
  by_cases h : Sel (ids E) d t
  · rw [if_pos h, decide_eq_true h]; rfl
  · rw [if_neg h, decide_eq_false h]; rfl

theorem slotTable_apply (t : Fin 1024) (d : Fin 8) : slotTable (F := Ideal) E (ix2 t d) = slotOf (F := Ideal) E (ix2 t d) := by
  unfold slotTable
  unfold_payloads
  pointwise

/-! ## The device's own rows -/

theorem posW_eq : ∀ c : Dev nD, posW c = BitVec.ofNat 32 c.val := by decide

theorem mySlot_apply (c : Dev nD) (t : Fin 1024) : mySlot (F := Ideal) E c (ix2 t 0) = slotOf (F := Ideal) E (ix2 t c) := by
  unfold mySlot devIds
  unfold_payloads
  pointwise
  rw [posW_eq]
  rw [Finset.sum_congr rfl fun (d : Fin 8) _ => ?_]
  rotate_left
  · exact fun d => if d = c then slotOf (F := Ideal) E (ix2 t d) else 0
  · rw [cmpi_eq_def, num_cond, ite_mul_one]
    refine if_congr ?_ rfl rfl
    constructor
    · intro h
      have : c.val < 8 := c.isLt
      exact Fin.ext (ofNat32_inj (by omega) (by omega) h)
    · rintro rfl; rfl
  · rw [sum_one _ _ c fun _ h => h, if_pos rfl]

/-- A token's row among the tokens that device `c` computes; minus one if the device does not compute it. -/
def rowVal (c : Dev nD) (t : Fin 1024) : EReal := if Sel (ids E) c t then ((row (ids E) c t : ℕ) : EReal) else ((-1 : ℝ) : EReal)

theorem ownRow_apply (c : Dev nD) (t : Fin 1024) :
    k0_pay23 (F := Ideal) (posW c) (expertOf (F := Ideal) E) (rankOf E) (keptOf (F := Ideal) E) (ownerOf (F := Ideal) E) (ix2 t 0) = rowVal E c t := by
  unfold expertOf
  unfold_payloads
  pointwise
  rw [posW_eq, kept_owner]
  unfold rowVal
  by_cases h : Sel (ids E) c t
  · rw [if_pos h, decide_eq_true h]
    have h1 := h.owner
    have h2 : (ids E t).toNat < 32 := by have := c.isLt; omega
    rw [rankOf_apply, if_pos h2]
    have h3 : IntOp.subi (E (ix2 t 0)) (Scalar.muli (BitVec.ofNat 32 c.val) 4#32) = BitVec.ofNat 32 ((ids E t).toNat - 4 * c.val) := by
      have e1 : E (ix2 t 0) = BitVec.ofNat 32 (ids E t).toNat := (eq_ofNat32 (ids E t).isLt).2 rfl
      have e2 : Scalar.muli (BitVec.ofNat 32 c.val) 4#32 = BitVec.ofNat 32 (4 * c.val) := (by decide : ∀ c : Dev nD, Scalar.muli (BitVec.ofNat 32 c.val) 4#32 = BitVec.ofNat 32 (4 * c.val)) c
      rw [e1, e2]
      exact Routing.ofNat32_sub (by omega)
    rw [h3, num_ofNat (by omega), show Ideal.ofBits .f32 1107296256#32 = ((32 : ℕ) : EReal) from ofBits_32]
    show ((((ids E t).toNat - 4 * c.val : ℕ) : EReal)) * ((32 : ℕ) : EReal) + ((rk (ids E) t : ℕ) : EReal) = _
    unfold row
    rw [Nat.cast_add, EReal.natCast_mul]
  · rw [if_neg h, decide_eq_false h]
    exact ofBits_neg_one

theorem gsTable_apply (c : Dev nD) (t : Fin 1024) : gsTable (F := Ideal) E c (ix2 t 0) = rowVal E c t := by
  rw [← ownRow_apply]
  unfold gsTable
  rw [show k0_pay24 (F := Ideal) = fun a b c d e => shapeCast S1024x1 (k0_pay23 a b c d e) shapeCasts_S1024x1_S1024x1 from rfl]
  pointwise

theorem pick_apply (c : Dev nD) (t : Fin 1024) (g : Fin 128) :
    pick (F := Ideal) E c (ix2 t g) = if Sel (ids E) c t ∧ row (ids E) c t = g.val then 1 else 0 := by
  have h : pick (F := Ideal) E c (ix2 t g) = FloatOps.sitofp (F := Ideal) .f32 (BitVec.setWidth 32 (BitVec.ofBool (decide (rowVal E c t = FloatOps.sitofp (F := Ideal) .f32 (BitVec.ofNat 32 g.val))))) := by
    rw [← ownRow_apply]
    unfold pick
    rw [show k0_pay25 (F := Ideal) = fun a b c d e => truncf .bf16 (sitofp .f32 (extui 32 (cmpf .oeq (broadcastTo S1024x128 (k0_pay23 a b c d e) broadcasts_S1024x1_S1024x128)
      (sitofp .f32 (iota .tc S1024x128 32 [1] iota_S1024x128_d1_w32))) natLt_1_32)) bitsLt_bf16_f32 from rfl]
    pointwise
  rw [h, num_cond, num_ofNat (by omega)]
  refine if_congr ?_ rfl rfl
  unfold rowVal
  by_cases hs : Sel (ids E) c t
  · rw [if_pos hs, nat_inj]
    exact ⟨fun h => ⟨hs, h⟩, fun h => h.2⟩
  · rw [if_neg hs]
    exact ⟨fun h => absurd h (nat_ne_neg_one _), fun h => absurd h.1 hs⟩

end Tables

end Cert.Moe
-- ==== Proof.DispatchRead.lean ====
/-
The tokens that a device computes and their products, read at an index: the gathered tokens, each in the quarter of its
expert, and the products with the experts' matrices.
-/
module

public import proofs.«01_k».proof.Proof.SlotRead

@[expose] public section

noncomputable section

namespace Cert.Moe

open Cert.KernelIdeal Cert.KernelIdeal.Gen
open Idealize.ShloMosaic Finset

/-- Column `256 q + i`. -/
def quarter (q : Fin 4) (i : Fin 256) : Fin 1024 := ⟨256 * q.val + i.val, by omega⟩

/-- A sum over columns, quarter by quarter. -/
theorem sum_quarter {M : Type} [AddCommMonoid M] (f : Fin 1024 → M) : ∑ j, f j = ∑ q : Fin 4, ∑ i : Fin 256, f (quarter q i) := by
  rw [← Fintype.sum_prod_type' (f := fun q i => f (quarter q i))]
  refine (Fintype.sum_bijective (fun p : Fin 4 × Fin 256 => quarter p.1 p.2) ⟨fun p q h => ?_, fun t => ?_⟩ _ _ fun _ => rfl).symm
  · have h' : 256 * p.1.val + p.2.val = 256 * q.1.val + q.2.val := congrArg Fin.val h
    refine Prod.ext (Fin.ext ?_) (Fin.ext ?_) <;> omega
  · exact ⟨(⟨t.val / 256, by omega⟩, ⟨t.val % 256, by omega⟩), Fin.ext (by show 256 * (t.val / 256) + t.val % 256 = t.val; omega)⟩

section Dispatch

variable (E : Vec Ideal S1024x1 .i32) (c : Dev nD) (X : Vec Ideal S1024x256 .bf16) (W : Vec Ideal S4x256x512 .bf16)

theorem gathered_apply (g : Fin 128) (i : Fin 256) : gathered (F := Ideal) E c X (ix2 g i) = ∑ t : Fin 1024, pick (F := Ideal) E c (ix2 t g) * X (ix2 t i) := by
  unfold gathered
  rw [show k0_pay26 (F := Ideal) (posW c) (expertOf (F := Ideal) E) (rankOf E) (keptOf (F := Ideal) E) (ownerOf (F := Ideal) E) X =
    truncf .bf16 (matmul dot_S1024x128_S1024x256_S128x256_0_0_1_1_n_n none (pick (F := Ideal) E c) (shapeCast S1024x256 X shapeCasts_S1024x256_S1024x256) (constant (F := Ideal) S128x256 .f32 0x00000000#32)) bitsLt_bf16_f32 from rfl]
  pointwise [dot_S1024x128_S1024x256_S128x256_0_0_1_1_n_n]

/-- The four copies of the gathered tokens. -/
def copies : FVec Ideal S128x1024 .bf16 :=
  concatenate S128x1024 1 (List.ofFn fun _ : Fin 4 => ⟨S128x256, gathered (F := Ideal) E c X⟩) concatenates_S128x256_S128x256_S128x256_S128x256_S128x1024_d1

theorem copies_apply (g : Fin 128) (q : Fin 4) (i : Fin 256) : copies E c X (ix2 g (quarter q i)) = gathered (F := Ideal) E c X (ix2 g i) := by
  unfold copies
  refine concatenate_ofFn_apply (t := S128x1024) (s₁ := S128x256) 1 (fun _ : Fin 4 => gathered (F := Ideal) E c X) concatenates_S128x256_S128x256_S128x256_S128x256_S128x1024_d1 rfl 256 rfl _ q ?_ (ix2 g i) ?_ ?_
  · show (256 * q.val + i.val) / 256 = q.val
    omega
  · show i.val = (256 * q.val + i.val) % 256
    omega
  · intro a ha
    fin_cases a
    · rfl
    · exact absurd rfl ha

theorem spread_apply (g : Fin 128) (q : Fin 4) (i : Fin 256) :
    spread (F := Ideal) E c X (ix2 g (quarter q i)) = if g.val / 32 = q.val then gathered (F := Ideal) E c X (ix2 g i) else 0 := by
  unfold spread
  generalize hG : gathered (F := Ideal) E c X = G
  unfold_payloads
  rw [show (concatenate S128x1024 1 [⟨S128x256, G⟩, ⟨S128x256, G⟩, ⟨S128x256, G⟩, ⟨S128x256, G⟩] concatenates_S128x256_S128x256_S128x256_S128x256_S128x1024_d1 : FVec Ideal S128x1024 .bf16) = copies E c X from by rw [← hG]; rfl]
  pointwise
  have h1 : (256 * q.val + i.val) / 256 = q.val := by omega
  have key : IntOp.cmpi .eq (floorW (BitVec.ofNat 32 (quarter q i).val) 256#32) (floorW (BitVec.ofNat 32 g.val) 32#32) = BitVec.ofBool (decide (g.val / 32 = q.val)) := by
    rw [show (256#32 : BitVec 32) = BitVec.ofNat 32 256 from rfl, show (32#32 : BitVec 32) = BitVec.ofNat 32 32 from rfl,
      floorW_ofNat (by omega) (by decide) (by decide), floorW_ofNat (by omega) (by decide) (by decide), cmpi_eq_def, show (quarter q i).val / 256 = q.val from h1]
    exact ofBool_inj ⟨fun h => (ofNat32_inj (by omega) (by omega) h).symm, fun h => by rw [h]⟩
  rw [copies_apply, hG]
  refine (congrArg (fun w => G (ix2 g i) * FloatOps.sitofp (F := Ideal) .f32 (BitVec.setWidth 32 w)) key).trans ?_
  show G (ix2 g i) * FloatOps.sitofp (F := Ideal) .f32 (BitVec.setWidth 32 _) = _
  rw [num_cond, ite_mul_one]

/-- The products: the gathered token with the matrix of its row's expert. -/
theorem products_apply (g : Fin 128) (o : Fin 512) :
    products (F := Ideal) E c X W (ix2 g o) = ∑ i : Fin 256, gathered (F := Ideal) E c X (ix2 g i) * W (ix3 (⟨g.val / 32, by omega⟩ : Fin 4) i o) := by
  unfold products
  unfold_payloads
  pointwise
  rw [sum_quarter, Fintype.sum_eq_single (⟨g.val / 32, by omega⟩ : Fin 4)]
  · refine Finset.sum_congr rfl fun i _ => ?_
    rw [spread_apply, if_pos rfl]
    congr 3
    · exact Fin.ext (by show (256 * (g.val / 32) + i.val) / 256 = g.val / 32; omega)
    · exact Fin.ext (by show (256 * (g.val / 32) + i.val) % 256 = i.val; omega)
  · intro q hq
    refine Finset.sum_eq_zero fun i _ => ?_
    rw [spread_apply, if_neg fun h => hq (Fin.ext h.symm), zero_mul]

/-- The row of a computed token holds the token. -/
theorem gathered_row {t : Fin 1024} (h : Sel (ids E) c t) {g : Fin 128} (hg : row (ids E) c t = g.val) (i : Fin 256) :
    gathered (F := Ideal) E c X (ix2 g i) = X (ix2 t i) := by
  rw [gathered_apply]
  rw [Finset.sum_congr rfl fun s _ => by rw [pick_apply, ite_one_mul], sum_one _ _ t fun s hs => row_inj hs.1 h (hs.2.trans hg.symm), if_pos ⟨h, hg⟩]

/-- The product of token `t` with the matrix of its expert, on the device that owns the expert. -/
def share (t : Fin 1024) (o : Fin 512) : EReal :=
  ∑ i : Fin 256, X (ix2 t i) * W (ix3 (⟨((ids E t).toNat - 4 * c.val) % 4, by omega⟩ : Fin 4) i o)

theorem products_row {t : Fin 1024} (h : Sel (ids E) c t) {g : Fin 128} (hg : row (ids E) c t = g.val) (o : Fin 512) :
    products (F := Ideal) E c X W (ix2 g o) = share E c X W t o := by
  rw [products_apply]
  unfold share
  refine Finset.sum_congr rfl fun i _ => ?_
  rw [gathered_row E c X h hg]
  congr 3
  refine Fin.ext ?_
  show g.val / 32 = ((ids E t).toNat - 4 * c.val) % 4
  have := h.owner
  rw [← hg, row_div h]
  omega

end Dispatch

end Cert.Moe
-- ==== Proof.FramesRead.lean ====
/-
The frames that a device sends, read at an index: row `f` of the frame for block `b` holds the share of the block's token
whose row it is.
-/
module

public import proofs.«01_k».proof.Proof.DispatchRead

@[expose] public section

noncomputable section

namespace Cert.Moe

open Cert.KernelIdeal Cert.KernelIdeal.Gen
open Idealize.ShloMosaic Finset

section Frames

variable (E : Vec Ideal S1024x1 .i32) (c : Dev nD) (X : Vec Ideal S1024x256 .bf16) (W : Vec Ideal S4x256x512 .bf16)

/-- A row's value is a row's number. -/
theorem slotOf_eq_num (t : Fin 1024) (d : Fin 8) {f : ℕ} (hf : f < 2 ^ 31) :
    slotOf (F := Ideal) E (ix2 t d) = FloatOps.sitofp (F := Ideal) .f32 (BitVec.ofNat 32 f) ↔ Sel (ids E) d t ∧ place (ids E) d t = f := by
  rw [slotOf_apply, num_ofNat hf]
  by_cases hs : Sel (ids E) d t
  · rw [if_pos hs, nat_inj]
    exact ⟨fun h => ⟨hs, h⟩, fun h => h.2⟩
  · rw [if_neg hs]
    exact ⟨fun h => absurd h (nat_ne_neg_one _), fun h => absurd h.1 hs⟩

/-- Which token of the device is in which row of its block's frame, as zeros and ones. -/
def slotHot : FVec Ideal S1024x48 .bf16 :=
  truncf .bf16 (sitofp (F := Ideal) .f32 (extui 32 (cmpf .oeq (broadcastTo S1024x48 (mySlot (F := Ideal) E c) broadcasts_S1024x1_S1024x48)
    (sitofp (F := Ideal) .f32 (iota .tc S1024x48 32 [1] iota_S1024x48_d1_w32))) natLt_1_32)) bitsLt_bf16_f32

theorem slotHot_apply (t : Fin 1024) (f : Fin 48) : slotHot E c (ix2 t f) = if Sel (ids E) c t ∧ place (ids E) c t = f.val then 1 else 0 := by
  have h : slotHot E c (ix2 t f) = FloatOps.sitofp (F := Ideal) .f32 (BitVec.setWidth 32 (BitVec.ofBool (decide (slotOf (F := Ideal) E (ix2 t c) = FloatOps.sitofp (F := Ideal) .f32 (BitVec.ofNat 32 f.val))))) := by
    rw [← mySlot_apply]
    unfold slotHot
    pointwise
  rw [h, num_cond]
  exact if_congr (slotOf_eq_num E t c (by omega)) rfl rfl

theorem slices48 : ∀ b : Fin 8, S1024x48.Slices ![128 * b.val, 0] S128x48 := by decide
theorem slices128 : ∀ b : Fin 8, S1024x128.Slices ![128 * b.val, 0] S128x128 := by decide

/-- For block `b`: which of the computed rows is in which row of the frame. -/
def framePiece (b : Fin 8) : FVec Ideal S48x128 .f32 :=
  matmul dot_S128x48_S128x128_S48x128_0_0_1_1_n_n none (extractStridedSlice S128x48 ![128 * b.val, 0] (slotHot E c) (slices48 b))
    (extractStridedSlice S128x128 ![128 * b.val, 0] (pick (F := Ideal) E c) (slices128 b)) (constant (F := Ideal) S48x128 .f32 0x00000000#32)

/-- The same for all blocks, one under the other. -/
def framePicks : FVec Ideal S384x128 .f32 :=
  concatenate S384x128 0 (List.ofFn fun b : Fin 8 => ⟨S48x128, framePiece E c b⟩) concatenates_S48x128_S48x128_S48x128_S48x128_S48x128_S48x128_S48x128_S48x128_S384x128_d0

theorem frames_pieces : frames (F := Ideal) E c X W =
    shapeCast S8x48x512 (shapeCast S8x48x512 (truncf .bf16 (matmul dot_S384x128_S128x512_S384x512_1_0_0_1_n_n none (truncf .bf16 (framePicks E c) bitsLt_bf16_f32)
      (products (F := Ideal) E c X W) (constant (F := Ideal) S384x512 .f32 0x00000000#32)) bitsLt_bf16_f32) shapeCasts_S384x512_S8x48x512) shapeCasts_S8x48x512_S8x48x512 := rfl

theorem framePiece_apply (b : Fin 8) (f : Fin 48) (g : Fin 128) :
    framePiece E c b (ix2 f g) = ∑ i : Fin 128, slotHot E c (ix2 (tok b i) f) * pick (F := Ideal) E c (ix2 (tok b i) g) := by
  unfold framePiece
  pointwise [dot_S128x48_S128x128_S48x128_0_0_1_1_n_n]
  rfl

theorem framePicks_apply (b : Fin 8) (f : Fin 48) (g : Fin 128) (r : Fin 384) (hr : r.val = 48 * b.val + f.val) :
    framePicks E c (ix2 r g) = framePiece E c b (ix2 f g) := by
  refine concatenate_ofFn_apply (t := S384x128) (s₁ := S48x128) 0 (framePiece E c) _ rfl 48 rfl _ b ?_ (ix2 f g) ?_ ?_
  · show r.val / 48 = b.val
    omega
  · show f.val = r.val % 48
    omega
  · intro a ha
    fin_cases a
    · exact absurd rfl ha
    · rfl

theorem frames_apply (b : Fin 8) (f : Fin 48) (o : Fin 512) :
    frames (F := Ideal) E c X W (ix3 b f o) = ∑ g : Fin 128, framePiece E c b (ix2 f g) * products (F := Ideal) E c X W (ix2 g o) := by
  rw [frames_pieces]
  pointwise
  exact Finset.sum_congr rfl fun g _ => by rw [framePicks_apply E c b f g _ (by show b.val * 48 + f.val = 48 * b.val + f.val; omega)]

/-- The row of the frame for a computed token of the block holds the token's share. -/
theorem frames_row (b : Fin 8) (i : Fin 128) (h : Sel (ids E) c (tok b i)) (f : Fin 48) (hf : place (ids E) c (tok b i) = f.val) (o : Fin 512) :
    frames (F := Ideal) E c X W (ix3 b f o) = share E c X W (tok b i) o := by
  have hg : ∀ g : Fin 128, framePiece E c b (ix2 f g) = if row (ids E) c (tok b i) = g.val then 1 else 0 := by
    intro g
    rw [framePiece_apply, Finset.sum_congr rfl fun j _ => by rw [slotHot_apply, ite_one_mul],
      sum_one _ _ i fun j hj => (tok_inj (place_inj (by rw [tok_div, tok_div]) hj.1 h (hj.2.trans hf.symm))).2, if_pos ⟨h, hf⟩, pick_apply]
    exact if_congr ⟨fun h => h.2, fun h' => ⟨h, h'⟩⟩ rfl rfl
  rw [frames_apply, Finset.sum_congr rfl fun g _ => by rw [hg, ite_one_mul],
    sum_one _ _ (⟨_, row_lt h⟩ : Fin 128) fun g hg => Fin.ext hg.symm, if_pos rfl]
  exact products_row E c X W h rfl o

end Frames

end Cert.Moe
-- ==== Proof.TotalRead.lean ====
/-
A device's block of the result, read at an index: the sum over the devices of their shares of the block's tokens.
-/
module

public import proofs.«01_k».proof.Proof.FramesRead
public import proofs.«01_k».proof.Proof.BodyChains

@[expose] public section

noncomputable section

namespace Cert.Moe

open Cert.KernelIdeal Cert.KernelIdeal.Gen
open Idealize.ShloMosaic Finset

/-! ## The block's rows -/

theorem off5_eq : ∀ c : Dev nD, k0_off5 c = ![128 * c.val, 0] := by decide
theorem off6_eq : ∀ c : Dev nD, k0_off6 c = ![128 * c.val, 0] := by decide

theorem gsRows_apply (c : Dev nD) (g : FVec Ideal S1024x1 .f32) (i : Fin 128) : gsRows c g (ix2 i 0) = g (ix2 (tok c i) 0) := by
  show g _ = g _
  congr 1
  funext a
  apply Fin.ext
  refine (congrArg (· + _) (congrFun (off5_eq c) a)).trans ?_
  fin_cases a
  · show 128 * c.val + 1 * i.val = 128 * c.val + i.val
    omega
  · rfl

theorem slotRows_apply (c : Dev nD) (g : FVec Ideal S1024x8 .f32) (i : Fin 128) (d : Fin 8) : slotRows c g (ix2 i d) = g (ix2 (tok c i) d) := by
  show g _ = g _
  congr 1
  funext a
  apply Fin.ext
  refine (congrArg (· + _) (congrFun (off6_eq c) a)).trans ?_
  fin_cases a
  · show 128 * c.val + 1 * i.val = 128 * c.val + i.val
    omega
  · show 0 + 1 * d.val = d.val
    omega

theorem frameAt_apply (A : Dev nD → FVec Ideal S8x48x512 .bf16) (c k : Dev nD) (f : Fin 48) (o : Fin 512) :
    frameAt (landed A c) k (ix3 0 f o) = A k (ix3 c f o) := by
  show landed A c _ = _
  unfold landed
  refine congrArg₂ (fun d x => A d x) (Fin.ext ?_) (funext fun a => Fin.ext ?_)
  · show k.val + 1 * 0 = k.val
    omega
  · fin_cases a
    · rfl
    · show 0 + 1 * f.val = f.val
      omega
    · show 0 + 1 * o.val = o.val
      omega

theorem backW_eq : ∀ (c : Dev nD) (r : Fin 7), backW (posW c) (BitVec.ofNat 32 (r.val + 1)) = BitVec.ofNat 32 (pv r.val c).val := by decide

/-! ## The shares -/

section Total

variable (E : Vec Ideal S1024x1 .i32) (X : Vec Ideal S1024x256 .bf16) (W : Dev nD → Vec Ideal S4x256x512 .bf16)

/-- What device `d` contributes to token `t`'s row. -/
def part (d : Dev nD) (t : Fin 1024) (o : Fin 512) : EReal := if Sel (ids E) d t then share E d X (W d) t o else 0

theorem acc0_apply (c : Dev nD) (i : Fin 128) (o : Fin 512) :
    acc0 (products (F := Ideal) E c X (W c)) (gsRows c (gsTable (F := Ideal) E c)) (ix2 i o) = part E X W c (tok c i) o := by
  unfold acc0
  generalize hP : products (F := Ideal) E c X (W c) = P
  generalize hg : gsRows c (gsTable (F := Ideal) E c) = g
  unfold_payloads
  pointwise
  subst hP hg
  have h1 : ∀ x : Fin 128, gsRows c (gsTable (F := Ideal) E c) (ix2 i 0) = FloatOps.sitofp (F := Ideal) .f32 (BitVec.ofNat 32 x.val) ↔ Sel (ids E) c (tok c i) ∧ row (ids E) c (tok c i) = x.val := by
    intro x
    rw [gsRows_apply, gsTable_apply, num_ofNat (by omega)]
    unfold rowVal
    by_cases hs : Sel (ids E) c (tok c i)
    · rw [if_pos hs, nat_inj]
      exact ⟨fun h => ⟨hs, h⟩, fun h => h.2⟩
    · rw [if_neg hs]
      exact ⟨fun h => absurd h (nat_ne_neg_one _), fun h => absurd h.1 hs⟩
  rw [Finset.sum_congr rfl fun x _ => (congrArg (· * _) ((num_cond _).trans (if_congr (h1 x) rfl rfl))).trans (ite_one_mul _ _)]
  unfold part
  by_cases hs : Sel (ids E) c (tok c i)
  · rw [sum_one _ _ (⟨_, row_lt hs⟩ : Fin 128) fun x hx => Fin.ext hx.2.symm, if_pos ⟨hs, rfl⟩, if_pos hs]
    exact products_row E c X (W c) hs rfl o
  · rw [if_neg hs]
    exact Finset.sum_eq_zero fun x _ => if_neg fun h => hs h.1

theorem accStep_apply (c d : Dev nD) (b : Vec Ideal S1x48x512 .bf16) (acc : FVec Ideal S128x512 .f32) (i : Fin 128) (o : Fin 512)
    (hb : ∀ f : Fin 48, b (ix3 0 f o) = frames (F := Ideal) E d X (W d) (ix3 c f o)) (hroom : Sel (ids E) d (tok c i) → place (ids E) d (tok c i) < 48) :
    accStep (BitVec.ofNat 32 d.val) (slotRows c (slotTable (F := Ideal) E)) b acc (ix2 i o) = acc (ix2 i o) + part E X W d (tok c i) o := by
  unfold accStep
  generalize hg : slotRows c (slotTable (F := Ideal) E) = sl
  unfold_payloads
  pointwise
  subst hg
  have h0 : ∑ x : Fin 8, slotRows c (slotTable (F := Ideal) E) (ix2 i x) * FloatOps.sitofp (F := Ideal) .f32 (BitVec.setWidth 32 (IntOp.cmpi .eq (BitVec.ofNat 32 x.val) (BitVec.ofNat 32 d.val)))
      = slotOf (F := Ideal) E (ix2 (tok c i) d) := by
    have hd : d.val < 8 := d.isLt
    rw [Finset.sum_congr rfl fun x _ => (congrArg (_ * ·) ((congrArg (fun w => FloatOps.sitofp (F := Ideal) .f32 (BitVec.setWidth 32 w)) (cmpi_eq_def _ _)).trans (num_cond _))).trans (ite_mul_one _ _),
      sum_one _ _ d fun x hx => Fin.ext (ofNat32_inj (by have : x.val < 8 := x.isLt; omega) (by omega) hx), if_pos rfl, slotRows_apply, slotTable_apply]
  refine congrArg (acc (ix2 i o) + ·) ?_
  have h1 : ∀ x : Fin 48, ∑ x : Fin 8, slotRows c (slotTable (F := Ideal) E) (ix2 i x) * FloatOps.sitofp (F := Ideal) .f32 (BitVec.setWidth 32 (IntOp.cmpi .eq (BitVec.ofNat 32 x.val) (BitVec.ofNat 32 d.val)))
      = FloatOps.sitofp (F := Ideal) .f32 (BitVec.ofNat 32 x.val) ↔ Sel (ids E) d (tok c i) ∧ place (ids E) d (tok c i) = x.val := by
    intro x
    rw [h0]
    exact slotOf_eq_num E (tok c i) d (by omega)
  rw [Finset.sum_congr rfl fun x _ => (congrArg (· * _) ((num_cond _).trans (if_congr (h1 x) rfl rfl))).trans (ite_one_mul _ _)]
  unfold part
  by_cases hs : Sel (ids E) d (tok c i)
  · rw [sum_one _ _ (⟨_, hroom hs⟩ : Fin 48) fun x hx => Fin.ext hx.2.symm, if_pos ⟨hs, rfl⟩, if_pos hs, hb]
    exact frames_row E d X (W d) c i hs _ rfl o
  · rw [if_neg hs]
    exact Finset.sum_eq_zero fun x _ => if_neg fun h => hs h.1

/-- The device `r` places before `c`, `c` itself for none. -/
def back (c : Dev nD) (r : Fin 8) : Dev nD := ⟨(c.val + 8 - r.val) % 8, Nat.mod_lt _ (by decide)⟩

theorem back_bij : ∀ c : Dev nD, Function.Bijective (back c) := by decide

theorem sum_back {M : Type} [AddCommMonoid M] (c : Dev nD) (f : Dev nD → M) : f c + ∑ r : Fin 7, f (pv r.val c) = ∑ d, f d := by
  rw [← Fintype.sum_bijective (back c) (back_bij c) (fun r => f (back c r)) f fun _ => rfl, Fin.sum_univ_succ (n := 7)]
  have h0 : ∀ c : Dev nD, c = back c 0 := by decide
  have h1 : ∀ (c : Dev nD) (r : Fin 7), pv r.val c = back c r.succ := by decide
  rw [← h0]
  exact congrArg (f c + ·) (Finset.sum_congr rfl fun r _ => by rw [h1])

/-- The block after the device's own share and those of the first `n` frames. -/
theorem accAfter_apply (A : Dev nD → FVec Ideal S8x48x512 .bf16) (hA : ∀ d, A d = frames (F := Ideal) E d X (W d)) (c : Dev nD) (i : Fin 128) (o : Fin 512)
    (hroom : ∀ d, d ≠ c → Sel (ids E) d (tok c i) → place (ids E) d (tok c i) < 48) :
    ∀ n : ℕ, n ≤ 7 → accAfter A c (posW c) (products (F := Ideal) E c X (W c)) (gsTable (F := Ideal) E c) (slotTable (F := Ideal) E) n (ix2 i o) =
      part E X W c (tok c i) o + ∑ r ∈ range n, part E X W (pv r c) (tok c i) o
  | 0, _ => by
    rw [range_zero, sum_empty, add_zero]
    exact acc0_apply E X W c i o
  | n + 1, hn => by
    rw [sum_range_succ, ← add_assoc, ← accAfter_apply A hA c i o hroom n (by omega)]
    show accStep (backW (posW c) (BitVec.ofNat 32 (n + 1))) _ _ _ _ = _
    rw [backW_eq c ⟨n, by omega⟩]
    refine accStep_apply E X W c (pv n c) _ _ i o (fun f => ?_) (hroom _ (pv_ne c ⟨n, by omega⟩))
    exact (frameAt_apply A c (pv n c) f o).trans (by rw [hA])

/-- The block of the result: every device's share of each of its tokens. -/
theorem outBlock_apply (A : Dev nD → FVec Ideal S8x48x512 .bf16) (hA : ∀ d, A d = frames (F := Ideal) E d X (W d)) (c : Dev nD) (i : Fin 128) (o : Fin 512)
    (hroom : ∀ d, d ≠ c → Sel (ids E) d (tok c i) → place (ids E) d (tok c i) < 48) :
    outBlock A c E X (W c) (ix2 i o) = ∑ d, part E X W d (tok c i) o := by
  unfold outBlock
  rw [accAfter_apply E X W A hA c i o hroom 7 le_rfl, Finset.sum_range, sum_back c fun d => part E X W d (tok c i) o]

/-- The sum of the shares: the token's product with its expert's matrix if the token is within capacity and names an
    expert, else zero. `V` is the experts' matrices, `W` its cut into the devices' blocks. -/
theorem sum_part (V : Fin 32 → Fin 256 → Fin 512 → EReal) (hW : ∀ (d : Dev nD) (q : Fin 4) (i : Fin 256) (o : Fin 512), W d (ix3 q i o) = V ⟨4 * d.val + q.val, by have : d.val < 8 := d.isLt; omega⟩ i o)
    (t : Fin 1024) (o : Fin 512) :
    ∑ d, part E X W d t o = ∑ k : Fin 32, if (ids E t).toNat = k.val ∧ rk (ids E) t < 25 then ∑ i : Fin 256, X (ix2 t i) * V k i o else 0 := by
  by_cases h : (ids E t).toNat < 32 ∧ rk (ids E) t < 25
  · have hs : Sel (ids E) (⟨(ids E t).toNat / 4, by omega⟩ : Fin 8) t := ⟨h.2, rfl⟩
    have h1 : ∑ d, part E X W d t o = part E X W (⟨(ids E t).toNat / 4, by omega⟩ : Fin 8) t o :=
      Fintype.sum_eq_single _ fun d hd => if_neg fun h' => hd (Sel.unique h' hs)
    rw [h1, sum_one _ _ (⟨_, h.1⟩ : Fin 32) fun k hk => Fin.ext hk.1.symm, if_pos ⟨rfl, h.2⟩]
    refine (if_pos hs).trans (Finset.sum_congr rfl fun i _ => ?_)
    rw [hW]
    congr 2
    refine Fin.ext ?_
    show 4 * ((ids E t).toNat / 4) + ((ids E t).toNat - 4 * ((ids E t).toNat / 4)) % 4 = (ids E t).toNat
    omega
  · have h1 : ∑ d, part E X W d t o = 0 :=
      Finset.sum_eq_zero fun d _ => if_neg fun hs => h ⟨by have := hs.2; have : d.val < 8 := d.isLt; omega, hs.1⟩
    have h2 : (∑ k : Fin 32, if (ids E t).toNat = k.val ∧ rk (ids E) t < 25 then ∑ i : Fin 256, X (ix2 t i) * V k i o else 0) = 0 :=
      Finset.sum_eq_zero fun k _ => if_neg fun hk => h ⟨by rw [hk.1]; exact k.isLt, hk.2⟩
    rw [h1, h2]

end Total

end Cert.Moe
-- ==== Proof.WordCounts.lean ====
/-
The counts that the reference and the precondition keep in words: the rank, the capacity test, and the shifts that name a
token's block and an expert's owner.
-/
module

public import proofs.«01_k».proof.Proof.RankRead
public import Idealize.ShloMosaic.Lib.IndicatorCount

@[expose] public section

noncomputable section

namespace Cert.Moe

open Idealize.ShloMosaic Finset

theorem ofBool_eq_one {p : Prop} [Decidable p] : BitVec.ofBool (decide p) = 1#1 ↔ p := by
  by_cases h : p <;> simp [h]

/-- A sum of widened conditions is the word of a count. -/
theorem fold_count (w : Fin 1024 → BitVec 1) (p : Fin 1024 → Prop) [DecidablePred p] (h : ∀ x, w x = BitVec.ofBool (decide (p x))) :
    (Finset.univ : Finset (Fin 1024)).fold IntOp.addi 0#32 (fun x => BitVec.setWidth 32 (w x)) = BitVec.ofNat 32 #{x | p x} := by
  refine (IndicatorCount.fold_addi_setWidth_eq_card w univ).trans (congrArg (fun s : Finset (Fin 1024) => BitVec.ofNat 32 s.card) ?_)
  ext x
  simp only [mem_filter, mem_univ, true_and]
  rw [h, ofBool_eq_one]

theorem card_le_1024 (p : Fin 1024 → Prop) [DecidablePred p] : #{x | p x} ≤ 1024 := (card_le_univ _).trans (by simp)

theorem cmpi_slt_ofNat {a b : ℕ} (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [Routing.slt_ofNat32 ha hb]

variable (e : Fin 1024 → BitVec 32)

/-- The rank's word. -/
def rankWord (t : Fin 1024) : BitVec 32 :=
  (Finset.univ : Finset (Fin 1024)).fold IntOp.addi 0#32 (fun x => BitVec.setWidth 32 (IntOp.andi (IntOp.cmpi .eq (e t) (e x)) (IntOp.cmpi .slt (BitVec.ofNat 32 x.val) (BitVec.ofNat 32 t.val))))

theorem rankWord_eq (t : Fin 1024) : rankWord e t = BitVec.ofNat 32 (rk e t) := by
  refine fold_count _ (fun s => s < t ∧ e s = e t) fun x => ?_
  rw [cmpi_eq_def, cmpi_slt_ofNat (by omega) (by omega), andi_ofBool]
  exact ofBool_inj ⟨fun h => ⟨h.2, h.1.symm⟩, fun h => ⟨h.2.symm, h.1⟩⟩

theorem rank_small (t : Fin 1024) : rk e t < 2 ^ 31 := lt_of_le_of_lt (card_le_1024 _) (by decide)

/-- The capacity test. -/
theorem cap_eq (t : Fin 1024) : IntOp.cmpi .slt (rankWord e t) 25#32 = BitVec.ofBool (decide (rk e t < 25)) := by
  rw [rankWord_eq]
  exact cmpi_slt_ofNat (rank_small e t) (by decide)

/-- A word from 0 to 31 as a signed number. -/
theorem in_range (x : BitVec 32) : (0 ≤ x.toInt ∧ x.toInt < 32) ↔ x.toNat < 32 := by
  rw [BitVec.toInt_eq_toNat_cond]
  have := x.isLt
  split_ifs <;> omega

/-- Within capacity and naming an expert. -/
theorem kept_eq (t : Fin 1024) :
    IntOp.andi (IntOp.andi (IntOp.cmpi .slt (rankWord e t) 25#32) (IntOp.cmpi .sge (e t) 0#32)) (IntOp.cmpi .slt (e t) 32#32) =
      BitVec.ofBool (decide (rk e t < 25 ∧ (e t).toNat < 32)) := by
  have h1 : IntOp.cmpi .sge (e t) 0#32 = BitVec.ofBool (decide (0 ≤ (e t).toInt)) := rfl
  have h2 : IntOp.cmpi .slt (e t) 32#32 = BitVec.ofBool (decide ((e t).toInt < 32)) := rfl
  rw [cap_eq, h1, h2, andi_ofBool, andi_ofBool]
  refine ofBool_inj ?_
  rw [and_assoc, in_range]

/-- A right shift of a nonnegative word. -/
theorem shr_eq {x : BitVec 32} (hx : x.toNat < 2 ^ 31) {k : ℕ} (hk : k < 32) :
    IntOp.shrsi .host x (BitVec.ofNat 32 k) = BitVec.ofNat 32 (x.toNat / 2 ^ k) := by
  have hk' : (BitVec.ofNat 32 k).toNat = k := by rw [BitVec.toNat_ofNat]; omega
  have hm : x.msb = false := by rw [BitVec.msb_eq_false_iff_two_mul_lt]; omega
  unfold IntOp.shrsi
  rw [if_pos (by omega)]
  rw [BitVec.sshiftRight_eq', hk', BitVec.sshiftRight_eq_of_msb_false hm]
  refine (eq_ofNat32 (lt_of_le_of_lt (Nat.div_le_self _ _) (by omega))).2 ?_
  rw [BitVec.toNat_ushiftRight, Nat.shiftRight_eq_div_pow]

theorem shr_token (t : Fin 1024) : IntOp.shrsi .host (BitVec.ofNat 32 t.val) 7#32 = BitVec.ofNat 32 (t.val / 128) := by
  have ht : (BitVec.ofNat 32 t.val).toNat = t.val := by rw [BitVec.toNat_ofNat]; omega
  have := shr_eq (x := BitVec.ofNat 32 t.val) (by omega) (show 7 < 32 by decide)
  rwa [ht] at this

theorem shr_expert {x : BitVec 32} (hx : x.toNat < 32) : IntOp.shrsi .host x 2#32 = BitVec.ofNat 32 (x.toNat / 4) :=
  shr_eq (by omega) (show 2 < 32 by decide)

end Cert.Moe
-- ==== Proof.PreRead.lean ====
/-
The precondition read at a token: if another device computes it, fewer than 48 of the earlier tokens of its block are that
device's.
-/
module

public import proofs.«01_k».proof.Proof.Gen.Pre_fits_KernelIdeal
public import proofs.«01_k».proof.Proof.WordCounts

@[expose] public section

noncomputable section

namespace Cert.Moe

open Idealize.ShloMosaic Finset
open Cert.Pre_fits_KernelIdeal

/-- The tokens that the precondition counts for token `t`. -/
def besideWord (e : Fin 1024 → BitVec 32) (t : Fin 1024) : BitVec 32 :=
  (Finset.univ : Finset (Fin 1024)).fold IntOp.addi 0#32 (fun x => BitVec.setWidth 32
    (IntOp.andi
      (IntOp.andi
        (IntOp.andi (IntOp.cmpi .eq (IntOp.shrsi .host (BitVec.ofNat 32 t.val) 7#32) (IntOp.shrsi .host (BitVec.ofNat 32 x.val) 7#32))
          (IntOp.cmpi .eq (IntOp.shrsi .host (e t) 2#32) (IntOp.shrsi .host (e x) 2#32)))
        (IntOp.cmpi .slt (BitVec.ofNat 32 x.val) (BitVec.ofNat 32 t.val)))
      (IntOp.andi (IntOp.andi (IntOp.cmpi .slt (rankWord e x) 25#32) (IntOp.cmpi .sge (e x) 0#32)) (IntOp.cmpi .slt (e x) 32#32))))

theorem fits_apply [hF : Cert.Pre_fits_KernelIdeal.Facts] (X : FVec Ideal S1024x256 .bf16) (R : FVec Ideal S256x32 .bf16) (E : IVec S1024x1 32) (W : FVec Ideal S4x256x512 .bf16) (t : Fin 1024) :
    Cert.Pre_fits_KernelIdeal.fn (F := Ideal) X R E W (ix1 t) =
      IntOp.ori (IntOp.ori
        (~~~IntOp.andi (IntOp.andi (IntOp.cmpi .slt (rankWord (ids E) t) 25#32) (IntOp.cmpi .sge (ids E t) 0#32)) (IntOp.cmpi .slt (ids E t) 32#32))
        (IntOp.cmpi .eq (IntOp.shrsi .host (BitVec.ofNat 32 t.val) 7#32) (IntOp.shrsi .host (ids E t) 2#32)))
        (IntOp.cmpi .slt (besideWord (ids E) t) 48#32) := by
  unfold Cert.Pre_fits_KernelIdeal.fn fn_part1 fn_part2
  pointwise
  rfl

theorem besideWord_eq {e : Fin 1024 → BitVec 32} {d : Fin 8} {t : Fin 1024} (h : Sel e d t) : besideWord e t = BitVec.ofNat 32 (place e d t) := by
  have ht : (e t).toNat < 32 := by have := h.2; omega
  refine fold_count _ (fun s => s < t ∧ (s.val / 128 = t.val / 128 ∧ Sel e d s)) fun x => ?_
  rw [kept_eq, shr_token, shr_token, shr_expert ht, cmpi_eq_def, cmpi_eq_def, cmpi_slt_ofNat (by omega) (by omega), andi_ofBool, andi_ofBool, andi_ofBool]
  refine ofBool_inj ⟨fun hh => ?_, fun hh => ?_⟩
  · obtain ⟨⟨⟨h1, h2⟩, h3⟩, h4, h5⟩ := hh
    rw [shr_expert h5] at h2
    exact ⟨h3, (ofNat32_inj (by omega) (by omega) h1).symm, h4, (ofNat32_inj (by omega) (by omega) h2).symm.trans h.2⟩
  · obtain ⟨h1, h2, h3, h4⟩ := hh
    have h5 : (e x).toNat < 32 := by omega
    rw [shr_expert h5]
    exact ⟨⟨⟨by rw [h2], by rw [h4, h.2]⟩, h1⟩, h3, h5⟩

/-- What the precondition says of a token that device `d` computes and that lies in another device's block. -/
theorem room_of_fits [hF : Cert.Pre_fits_KernelIdeal.Facts] {X : FVec Ideal S1024x256 .bf16} {R : FVec Ideal S256x32 .bf16} {E : IVec S1024x1 32} {W : FVec Ideal S4x256x512 .bf16}
    (hp : Cert.Pre_fits_KernelIdeal.fn (F := Ideal) X R E W = fun _ => 1#1) {d : Fin 8} {t : Fin 1024} (h : Sel (ids E) d t) (hd : d.val ≠ t.val / 128) :
    place (ids E) d t < 48 := by
  have ht : (ids E t).toNat < 32 := by have := h.2; omega
  have h1 := (fits_apply X R E W t).symm.trans (congrFun hp (ix1 t))
  rw [kept_eq, decide_eq_true ⟨h.1, ht⟩, shr_token, shr_expert ht, cmpi_eq_def, besideWord_eq h,
    decide_eq_false (fun hh => hd ((ofNat32_inj (by omega) (by omega) hh).trans h.2).symm),
    cmpi_slt_ofNat (a := place (ids E) d t) (b := 48) (lt_of_le_of_lt (card_le_1024 _) (by decide)) (by decide)] at h1
  by_contra hn
  rw [decide_eq_false hn] at h1
  exact absurd h1 (by decide)

end Cert.Moe
-- ==== Proof.RefRead.lean ====
/-
The reference's result read at a token and a column.
-/
module

public import proofs.«01_k».proof.Proof.Gen.ReferenceIdeal
public import proofs.«01_k».proof.Proof.WordCounts

@[expose] public section

noncomputable section

namespace Cert.Moe

open Idealize.ShloMosaic Finset
open Cert.ReferenceIdeal Cert.ReferenceIdeal.Gen

/-- Where token `t`'s rank is below the capacity. -/
def refKept (E : IVec S1024x1 32) : IVec S1024 1 :=
  cmpi .slt (Host.reduce IntOp.addi (extui 32 (andi (cmpi .eq (broadcastInDim S1024x1024 ![0, 1] bcast_S1024x1_S1024x1024_0_1 E)
      (broadcastInDim S1024x1024 ![0, 1] bcast_S1x1024_S1024x1024_0_1 (shapeCast _ E shapeCasts_S1024x1_S1x1024)))
    (cmpi .slt (broadcastInDim S1024x1024 ![0, 1] bcast_S1x1024_S1024x1024_0_1 (broadcastInDim S1x1024 ![1] bcast_S1024_S1x1024_1 (iotaInDim S1024 32 0)))
      (broadcastInDim S1024x1024 ![0, 1] bcast_S1024x1_S1024x1024_0_1 (broadcastInDim S1024x1 ![0] bcast_S1024_S1024x1_0 (iotaInDim S1024 32 0))))) natLt_1_32)
    (constantI S_ 32 0#32) reducesTo_S1024x1024_S1024_d1 h_S_) (broadcastInDim S1024 ![] bcast_S_S1024 (constantI S_ 32 25#32))

/-- The reference's result on the tokens `X`, the experts' numbers `E` and the experts' matrices `V`. -/
def refOut (X : FVec Ideal S1024x256 .bf16) (E : IVec S1024x1 32) (V : FVec Ideal S32x256x512 .bf16) : FVec Ideal S1024x512 .f32 :=
  Host.reduceAdd (select (broadcastInDim S1024x32x512 ![0, 1, 2] bcast_S1024x32x1_S1024x32x512_0_1_2 (broadcastInDim S1024x32x1 ![0, 1] bcast_S1024x32_S1024x32x1_0_1
      (andi (cmpi .eq (broadcastInDim S1024x32 ![0, 1] bcast_S1024x1_S1024x32_0_1 E) (broadcastInDim S1024x32 ![0, 1] bcast_S1x32_S1024x32_0_1 (broadcastInDim S1x32 ![1] bcast_S32_S1x32_1 (iotaInDim S32 32 0))))
        (broadcastInDim S1024x32 ![0, 1] bcast_S1024x1_S1024x32_0_1 (broadcastInDim S1024x1 ![0] bcast_S1024_S1024x1_0 (refKept E))))))
    (Host.dotGeneral dot_S1024x256_S32x256x512_S1024x32x512_1_1_0_02_n_n none (extf .f32 X bitsLt_bf16_f32) (extf .f32 V bitsLt_bf16_f32))
    (broadcastInDim S1024x32x512 ![] bcast_S_S1024x32x512 (id (constant S_ .f32 0x00000000#32)))) (constant S_ .f32 0x00000000#32) reducesTo_S1024x32x512_S1024x512_d1 h_S_

theorem refKept_apply (E : IVec S1024x1 32) (t : Fin 1024) : refKept E (ix1 t) = BitVec.ofBool (decide (rk (ids E) t < 25)) := by
  rw [← cap_eq]
  unfold refKept
  pointwise
  rfl

theorem refOut_apply (X : FVec Ideal S1024x256 .bf16) (E : IVec S1024x1 32) (V : FVec Ideal S32x256x512 .bf16) (t : Fin 1024) (o : Fin 512) :
    refOut X E V (ix2 t o) = ∑ k : Fin 32, if (ids E t).toNat = k.val ∧ rk (ids E) t < 25 then ∑ i : Fin 256, X (ix2 t i) * V (ix3 k i o) else 0 := by
  unfold refOut
  generalize hK : refKept E = K
  pointwise [dot_S1024x256_S32x256x512_S1024x32x512_1_1_0_02_n_n]
  subst hK
  simp only [refKept_apply]
  refine Finset.sum_congr rfl fun k _ => ?_
  have h0 : id (constant (F := Ideal) S_ .f32 0#32) ix0 = (0 : EReal) := by
    show Ideal.ofBits .f32 0#32 = _
    simp [Ideal.ofBits, Ideal.ieee]
  rw [h0, cmpi_eq_def, andi_ofBool]
  have hk : (E (ix2 t 0) = BitVec.ofNat 32 k.val ∧ rk (ids E) t < 25) ↔ ((ids E t).toNat = k.val ∧ rk (ids E) t < 25) :=
    and_congr_left fun _ => eq_ofNat32 (by omega)
  by_cases h : (ids E t).toNat = k.val ∧ rk (ids E) t < 25
  · rw [if_pos h, decide_eq_true (hk.2 h)]; rfl
  · rw [if_neg h, decide_eq_false fun h' => h (hk.1 h')]; rfl

end Cert.Moe
-- ==== Proof.Value.lean ====
/-
Each device's result is its block of the reference's.
-/
module

public import proofs.«01_k».proof.Proof.Windows
public import proofs.«01_k».proof.Proof.TotalRead
public import proofs.«01_k».proof.Proof.PreRead
public import proofs.«01_k».proof.Proof.RefRead
public import Idealize.ShloMosaic.Lib.Layout

@[expose] public section

noncomputable section

namespace Cert.Moe

open Cert.KernelIdeal Cert.KernelIdeal.Gen
open Idealize.ShloMosaic Idealize.ShloMosaic.TcCoe

/-- Row `i` of block `c` of a result is row `128 c + i` of the whole. -/
theorem block_out (v : FVec Ideal ⟨2, ![1024, 512]⟩ .f32) (c : Dev nD) (i : Fin 128) (o : Fin 512) :
    Layout.block ⟨2, ![128, 512]⟩ ⟨2, ![1024, 512]⟩ 0 8 c v (by decide) (ix2 i o) = v (ix2 (tok c i) o) := by
  rw [Layout.block_apply]
  refine congrArg v (funext fun a => Fin.ext ?_)
  rw [Layout.Tiles.idx_val]
  fin_cases a
  · show c.val * 128 + i.val = 128 * c.val + i.val
    omega
  · rfl

/-- Expert `q` of block `d` of the matrices is expert `4 d + q`. -/
theorem block_experts (v : FVec Ideal ⟨3, ![32, 256, 512]⟩ .bf16) (d : Dev nD) (q : Fin 4) (i : Fin 256) (o : Fin 512) :
    Layout.block ⟨3, ![4, 256, 512]⟩ ⟨3, ![32, 256, 512]⟩ 0 8 d v (by decide) (ix3 q i o) =
      v (ix3 (⟨4 * d.val + q.val, by have : d.val < 8 := d.isLt; omega⟩ : Fin 32) i o) := by
  rw [Layout.block_apply]
  refine congrArg v (funext fun a => Fin.ext ?_)
  rw [Layout.Tiles.idx_val]
  fin_cases a
  · show d.val * 4 + q.val = 4 * d.val + q.val
    omega
  · rfl
  · rfl

variable (m : (ℓ : Loc nD τ sig) → Buf (Elt Ideal) ℓ)

/-- Device `c`'s result, of the arguments `X`, `E` and `V` laid over the devices. -/
theorem resultOf_eq [hF : Cert.Pre_fits_KernelIdeal.Facts] (X : FVec Ideal S1024x256 .bf16) (E : IVec S1024x1 32) (V : FVec Ideal ⟨3, ![32, 256, 512]⟩ .bf16)
    (hp : ∀ c : Dev nD, Cert.Pre_fits_KernelIdeal.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1)
    (hX : ∀ c : Dev nD, m ((c.tc : Thread nD τ).loc main_arg0) = X) (hE : ∀ c : Dev nD, m ((c.tc : Thread nD τ).loc main_arg2) = E)
    (hV : ∀ c : Dev nD, m ((c.tc : Thread nD τ).loc main_arg3) = Layout.block ⟨3, ![4, 256, 512]⟩ ⟨3, ![32, 256, 512]⟩ 0 8 c V) (c : Dev nD) :
    resultOf m c = Layout.block ⟨2, ![128, 512]⟩ ⟨2, ![1024, 512]⟩ 0 8 c (refOut X E V) := by
  funext y
  obtain ⟨i, o, rfl⟩ : ∃ (i : Fin 128) (o : Fin 512), y = ix2 i o := ⟨y 0, y 1, funext fun a => by fin_cases a <;> rfl⟩
  have hx (d : Dev nD) : xIn m d = X := (xIn_eq m d).trans (hX d)
  have he (d : Dev nD) : idxIn m d = E := (idxIn_eq m d).trans (hE d)
  have hw (d : Dev nD) (q : Fin 4) (i : Fin 256) (o : Fin 512) := (congrFun ((wIn_eq m d).trans (hV d)) (ix3 q i o)).trans (block_experts V d q i o)
  refine Eq.trans ?_ (block_out (refOut X E V) c i o).symm
  rw [refOut_apply]
  refine Eq.trans ?_ (sum_part E X (wIn m) (fun k i o => V (ix3 k i o)) hw (tok c i) o)
  unfold resultOf
  rw [hx c, he c]
  refine outBlock_apply E X (wIn m) (sentBy m) (fun d => by unfold sentBy; rw [hx d, he d]) c i o fun d hd hs => ?_
  have h1 := hp c
  rw [hE c] at h1
  exact room_of_fits h1 hs fun h => hd (Fin.ext (h.trans (tok_div c i)))

end Cert.Moe
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.Pre_fits_KernelIdeal
public import proofs.«01_k».proof.Proof.Gen.Pre_fits_ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference runs, keeps its arguments, and has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs run, and the kernel's blocks are the blocks of the reference's result. -/
theorem algebraic : Cert.algebraic_KernelIdeal_ReferenceIdeal_pre_fits_KernelIdeal (hKernelIdeal := Cert.KernelIdeal.Gen.facts)
    (hReferenceIdeal := Cert.ReferenceIdeal.Gen.facts) (hPre_fits_KernelIdeal := Cert.Pre_fits_KernelIdeal.Gen.facts) :=
  fun m ρ m' ρ' hp ha => ⟨_,
    (θ_run Cert.KernelIdeal.defs _ _).mono (fun _ h c => ⟨((h.1 c).1 3).trans ((Cert.Moe.finalA_out m ρ c).trans (Cert.Moe.resultOf_eq m _ _ _
      (hF := Cert.Pre_fits_KernelIdeal.Gen.facts) hp (fun c => (ha c).1) (fun c => (ha c).2.2.1) (fun c => (ha c).2.2.2) c)), h.1.args c⟩) (Cert.Moe.run_main m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  Cert.Pre_fits_KernelIdeal.Gen.facts, Cert.Pre_fits_ReferenceIdeal.Gen.facts,
  Cert.Moe.frame_kernel, Cert.Moe.frame_ideal, fun m ρ _ => Cert.Moe.frame_ideal m ρ trivial,
  frame_reference, fun m ρ _ => frame_reference m ρ trivial, trivial, algebraic⟩

end Cert.Proof

end
